-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16x2048x1024 : Shape := ⟨3, ![16, 2048, 1024]⟩
abbrev S1024x1024 : Shape := ⟨2, ![1024, 1024]⟩
abbrev S1024 : Shape := ⟨1, ![1024]⟩
abbrev S16x256x1024 : Shape := ⟨3, ![16, 256, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 15
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16x256x1024, .bf16⟩
  | .hbm, ⟨6, _⟩ => ⟨S16x256x1024, .bf16⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S16x256x1024 : Shape := ⟨3, ![16, 256, 1024]⟩
abbrev S1x1x1024 : Shape := ⟨3, ![1, 1, 1024]⟩
abbrev S_ : Shape := ⟨0, ![]⟩
abbrev S16x2048 : Shape := ⟨2, ![16, 2048]⟩
abbrev S16x2048x1 : Shape := ⟨3, ![16, 2048, 1]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S16x256x1024, .bf16⟩
  | .hbm, ⟨6, _⟩ => ⟨S16x256x1024, .bf16⟩
  | .hbm, ⟨7, _⟩ => ⟨S1024x1024, .f32⟩
  | .hbm, ⟨8, _⟩ => ⟨S1024x1024, .f32⟩
  | .hbm, ⟨9, _⟩ => ⟨S16x2048x1024, .f32⟩
  | .hbm, ⟨10, _⟩ => ⟨S16x2048x1024, .f32⟩
  | .hbm, ⟨11, _⟩ => ⟨S1x1x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x4x256, .f32⟩
  | .hbm, ⟨33, _⟩ => ⟨S16x256x1024, .f32⟩
  | .hbm, ⟨34, _⟩ => ⟨S16x256x4x256, .f32⟩
  | .hbm, ⟨35, _⟩ => ⟨S16x256x1024, .f32⟩
  | .hbm, ⟨36, _⟩ => ⟨S16x256x4x256, .f32⟩
  | .hbm, ⟨37, _⟩ => ⟨S16x4x2048x256, .f32⟩
  | .hbm, ⟨38, _⟩ => ⟨S_, .f32⟩
  | .hbm, ⟨39, _⟩ => ⟨S16x4x2048x256, .f32⟩
  | .hbm, ⟨40, _⟩ => ⟨S16x4x2048x256, .f32⟩
  | .hbm, ⟨41, _⟩ => ⟨S_, .f32⟩
  | .hbm, ⟨42, _⟩ => ⟨S16x4x2048, .f32⟩
  | .hbm, ⟨43, _⟩ => ⟨S_, .f32⟩
  | .hbm, ⟨44, _⟩ => ⟨S16x4x2048, .f32⟩
  | .hbm, ⟨45, _⟩ => ⟨S16x4x2048, .f32⟩
  | .hbm, ⟨46, _⟩ => ⟨S16x4x2048x1, .f32⟩
  | .hbm, ⟨47, _⟩ => ⟨S16x4x2048x256, .f32⟩
  | .hbm, ⟨48, _⟩ => ⟨S16x4x2048x256, .f32⟩
  | .hbm, ⟨49, _⟩ => ⟨S16x4x2048x256, .f32⟩
  | .hbm, ⟨50, _⟩ => ⟨S_, .f32⟩
  | .hbm, ⟨51, _⟩ => ⟨S16x4x2048, .f32⟩
  | .hbm, ⟨52, _⟩ => ⟨S16x4x2048x1, .f32⟩
  | .hbm, ⟨53, _⟩ => ⟨S16x4x2048x256, .f32⟩
  | .hbm, ⟨54, _⟩ => ⟨S16x4x2048x256, .f32⟩
  | .hbm, ⟨55, _⟩ => ⟨S16x4x256x2048, .f32⟩
  | .hbm, ⟨56, _⟩ => ⟨S16x2048x4x256, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x16x1024 : Shape := ⟨3, ![1, 16, 1024]⟩
abbrev S1x512x1024 : Shape := ⟨3, ![1, 512, 1024]⟩
abbrev S544x1024 : Shape := ⟨2, ![544, 1024]⟩
abbrev S512x2816 : Shape := ⟨2, ![512, 2816]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1024x256 : Shape := ⟨2, ![1024, 256]⟩
abbrev S544x256 : Shape := ⟨2, ![544, 256]⟩
abbrev S512x256 : Shape := ⟨2, ![512, 256]⟩
abbrev S3x256 : Shape := ⟨2, ![3, 256]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x2816, .f32⟩
  | .hbm, ⟨11, _⟩ => ⟨S1x1024, .f32⟩
  | .hbm, ⟨12, _⟩ => ⟨S16x2048x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S544x1024, .bf16⟩
  | .local _ .vmem, ⟨15, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x5632, .f32⟩
  | .hbm, ⟨24, _⟩ => ⟨S16x2048x2816, .f32⟩
  | .hbm, ⟨25, _⟩ => ⟨S16x2048x2816, .f32⟩
  | .hbm, ⟨26, _⟩ => ⟨S_, .i32⟩
  | .hbm, ⟨27, _⟩ => ⟨S_, .f32⟩
  | .hbm, ⟨28, _⟩ => ⟨S16x2050x2816, .f32⟩
  | .hbm, ⟨29, _⟩ => ⟨S16x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S1x1x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S_, .f32⟩
  | .hbm, ⟨63, _⟩ => ⟨S16x2048x2816, .f32⟩
  | .hbm, ⟨64, _⟩ => ⟨S16x2048x2816, .f32⟩
  | .hbm, ⟨65, _⟩ => ⟨S_, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel3.lean ====
abbrev S16x256x1024 : Shape := ⟨3, ![16, 256, 1024]⟩
abbrev S1024 : Shape := ⟨1, ![1024]⟩
abbrev S1024x2048 : Shape := ⟨2, ![1024, 2048]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 8
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S4096x1024, .f32⟩
  | .hbm, ⟨5, _⟩ => ⟨S1x1024, .f32⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x256x1024 : Shape := ⟨3, ![16, 256, 1024]⟩
abbrev S1024 : Shape := ⟨1, ![1024]⟩
abbrev S1024x2048 : Shape := ⟨2, ![1024, 2048]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x2048 : Shape := ⟨3, ![16, 256, 2048]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x2048, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x2048, .f32⟩
  | .hbm, ⟨20, _⟩ => ⟨S16x256x1024, .f32⟩
  | .hbm, ⟨21, _⟩ => ⟨S16x256x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x1280 : Shape := ⟨3, ![16, 2048, 1280]⟩
abbrev S1280x1024 : Shape := ⟨2, ![1280, 1024]⟩
abbrev S1024 : Shape := ⟨1, ![1024]⟩
abbrev S16x256x1024 : Shape := ⟨3, ![16, 256, 1024]⟩
abbrev S1024x1024 : Shape := ⟨2, ![1024, 1024]⟩
abbrev S_ : Shape := ⟨0, ![]⟩
abbrev S1x1024 : Shape := ⟨2, ![1, 1024]⟩
abbrev S1x1024x1024 : Shape := ⟨3, ![1, 1024, 1024]⟩
abbrev S1x1024x1280 : Shape := ⟨3, ![1, 1024, 1280]⟩
abbrev S1x256x1024 : Shape := ⟨3, ![1, 256, 1024]⟩
abbrev S1024x1280 : Shape := ⟨2, ![1024, 1280]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 16
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1280, .bf16⟩
  | .hbm, ⟨2, _⟩ => ⟨S1280x1024, .f32⟩
  | .hbm, ⟨3, _⟩ => ⟨S1024, .f32⟩
  | .hbm, ⟨4, _⟩ => ⟨S16x256x1024, .bf16⟩
  | .hbm, ⟨5, _⟩ => ⟨S16x256x1024, .bf16⟩
  | .hbm, ⟨6, _⟩ => ⟨S1024x1024, .f32⟩
  | .hbm, ⟨7, _⟩ => ⟨S1024x1024, .f32⟩
  | .hbm, ⟨8, _⟩ => ⟨S1280x1024, .bf16⟩
  | .hbm, ⟨9, _⟩ => ⟨S1024x1024, .bf16⟩
  | .hbm, ⟨10, _⟩ => ⟨S1024x1024, .bf16⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1280, .bf16⟩
  | .local _ .vmem, ⟨3, _⟩ => ⟨S1x1024x1280, .bf16⟩
  | .local _ .vmem, ⟨4, _⟩ => ⟨S1280x1024, .bf16⟩
  | .local _ .vmem, ⟨5, _⟩ => ⟨S1x1024, .f32⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S16x2048x1024 : Shape := ⟨3, ![16, 2048, 1024]⟩
abbrev S16x2048x1280 : Shape := ⟨3, ![16, 2048, 1280]⟩
abbrev S1280x1024 : Shape := ⟨2, ![1280, 1024]⟩
abbrev S1024 : Shape := ⟨1, ![1024]⟩
abbrev S16x256x1024 : Shape := ⟨3, ![16, 256, 1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1280, .bf16⟩
  | .hbm, ⟨2, _⟩ => ⟨S1280x1024, .f32⟩
  | .hbm, ⟨3, _⟩ => ⟨S1024, .f32⟩
  | .hbm, ⟨4, _⟩ => ⟨S16x256x1024, .bf16⟩
  | .hbm, ⟨5, _⟩ => ⟨S16x256x1024, .bf16⟩
  | .hbm, ⟨6, _⟩ => ⟨S1024x1024, .f32⟩
  | .hbm, ⟨7, _⟩ => ⟨S1024x1024, .f32⟩
  | .hbm, ⟨8, _⟩ => ⟨S16x2048x1280, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x1024, .f32⟩
  | .hbm, ⟨23, _⟩ => ⟨S16x2048x1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x4x256, .f32⟩
  | .hbm, ⟨29, _⟩ => ⟨S16x256x1024, .f32⟩
  | .hbm, ⟨30, _⟩ => ⟨S16x256x4x256, .f32⟩
  | .hbm, ⟨31, _⟩ => ⟨S16x256x1024, .f32⟩
  | .hbm, ⟨32, _⟩ => ⟨S16x256x4x256, .f32⟩
  | .hbm, ⟨33, _⟩ => ⟨S16x4x2048x256, .f32⟩
  | .hbm, ⟨34, _⟩ => ⟨S_, .f32⟩
  | .hbm, ⟨35, _⟩ => ⟨S16x4x2048x256, .f32⟩
  | .hbm, ⟨36, _⟩ => ⟨S16x4x2048x256, .f32⟩
  | .hbm, ⟨37, _⟩ => ⟨S_, .f32⟩
  | .hbm, ⟨38, _⟩ => ⟨S16x4x2048, .f32⟩
  | .hbm, ⟨39, _⟩ => ⟨S_, .f32⟩
  | .hbm, ⟨40, _⟩ => ⟨S16x4x2048, .f32⟩
  | .hbm, ⟨41, _⟩ => ⟨S16x4x2048, .f32⟩
  | .hbm, ⟨42, _⟩ => ⟨S16x4x2048x1, .f32⟩
  | .hbm, ⟨43, _⟩ => ⟨S16x4x2048x256, .f32⟩
  | .hbm, ⟨44, _⟩ => ⟨S16x4x2048x256, .f32⟩
  | .hbm, ⟨45, _⟩ => ⟨S16x4x2048x256, .f32⟩
  | .hbm, ⟨46, _⟩ => ⟨S_, .f32⟩
  | .hbm, ⟨47, _⟩ => ⟨S16x4x2048, .f32⟩
  | .hbm, ⟨48, _⟩ => ⟨S16x4x2048x1, .f32⟩
  | .hbm, ⟨49, _⟩ => ⟨S16x4x2048x256, .f32⟩
  | .hbm, ⟨50, _⟩ => ⟨S16x4x2048x256, .f32⟩
  | .hbm, ⟨51, _⟩ => ⟨S16x4x256x2048, .f32⟩
  | .hbm, ⟨52, _⟩ => ⟨S16x2048x4x256, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel5.lean ====
abbrev S32x2048x1024 : Shape := ⟨3, ![32, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x16x1024 : Shape := ⟨3, ![1, 16, 1024]⟩
abbrev S1x512x1024 : Shape := ⟨3, ![1, 512, 1024]⟩
abbrev S544x1024 : Shape := ⟨2, ![544, 1024]⟩
abbrev S512x2816 : Shape := ⟨2, ![512, 2816]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1024x256 : Shape := ⟨2, ![1024, 256]⟩
abbrev S544x256 : Shape := ⟨2, ![544, 256]⟩
abbrev S512x256 : Shape := ⟨2, ![512, 256]⟩
abbrev S3x256 : Shape := ⟨2, ![3, 256]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x2816, .f32⟩
  | .hbm, ⟨11, _⟩ => ⟨S1x1024, .f32⟩
  | .hbm, ⟨12, _⟩ => ⟨S32x2048x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S544x1024, .bf16⟩
  | .local _ .vmem, ⟨15, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S32x2048x1024 : Shape := ⟨3, ![32, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S32x2050x2816 : Shape := ⟨3, ![32, 2050, 2816]⟩
abbrev S1x2816 : Shape := ⟨2, ![1, 2816]⟩
abbrev S1x1x2816 : Shape := ⟨3, ![1, 1, 2816]⟩

abbrev nBuf : Space → Nat
  | .hbm => 88
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S32x2048x5632, .f32⟩
  | .hbm, ⟨24, _⟩ => ⟨S32x2048x2816, .f32⟩
  | .hbm, ⟨25, _⟩ => ⟨S32x2048x2816, .f32⟩
  | .hbm, ⟨26, _⟩ => ⟨S_, .i32⟩
  | .hbm, ⟨27, _⟩ => ⟨S_, .f32⟩
  | .hbm, ⟨28, _⟩ => ⟨S32x2050x2816, .f32⟩
  | .hbm, ⟨29, _⟩ => ⟨S32x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S32x2048x2816, .f32⟩
  | .hbm, ⟨34, _⟩ => ⟨S32x2048x2816, .f32⟩
  | .hbm, ⟨35, _⟩ => ⟨S32x2048x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S32x2048x2816, .f32⟩
  | .hbm, ⟨40, _⟩ => ⟨S32x2048x2816, .f32⟩
  | .hbm, ⟨41, _⟩ => ⟨S32x2048x2816, .f32⟩
  | .hbm, ⟨42, _⟩ => ⟨S32x2048x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S32x2048x2816, .f32⟩
  | .hbm, ⟨47, _⟩ => ⟨S32x2048x2816, .f32⟩
  | .hbm, ⟨48, _⟩ => ⟨S32x2048x2816, .f32⟩
  | .hbm, ⟨49, _⟩ => ⟨S1x1x2816, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S_, .f32⟩
  | .hbm, ⟨55, _⟩ => ⟨S32x2048x2816, .f32⟩
  | .hbm, ⟨56, _⟩ => ⟨S32x2048x2816, .f32⟩
  | .hbm, ⟨57, _⟩ => ⟨S32x2048x2816, .f32⟩
  | .hbm, ⟨58, _⟩ => ⟨S_, .f32⟩
  | .hbm, ⟨59, _⟩ => ⟨S32x2048x2816, .f32⟩
  | .hbm, ⟨60, _⟩ => ⟨S32x2048x2816, .f32⟩
  | .hbm, ⟨61, _⟩ => ⟨S32x2048x2816, .f32⟩
  | .hbm, ⟨62, _⟩ => ⟨S_, .f32⟩
  | .hbm, ⟨63, _⟩ => ⟨S32x2048x2816, .f32⟩
  | .hbm, ⟨64, _⟩ => ⟨S32x2048x2816, .f32⟩
  | .hbm, ⟨65, _⟩ => ⟨S_, .f32⟩
  | .hbm, ⟨66, _⟩ => ⟨S32x2048x2816, .f32⟩
  | .hbm, ⟨67, _⟩ => ⟨S32x2048x2816, .f32⟩
  | .hbm, ⟨68, _⟩ => ⟨S32x2048x2816, .f32⟩
  | .hbm, ⟨69, _⟩ => ⟨S32x2048x2816, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048, .f32⟩
  | .hbm, ⟨75, _⟩ => ⟨S32x2048x1, .f32⟩
  | .hbm, ⟨76, _⟩ => ⟨S_, .f32⟩
  | .hbm, ⟨77, _⟩ => ⟨S32x2048x1, .f32⟩
  | .hbm, ⟨78, _⟩ => ⟨S32x2048x1, .f32⟩
  | .hbm, ⟨79, _⟩ => ⟨S_, .f32⟩
  | .hbm, ⟨80, _⟩ => ⟨S32x2048x1, .f32⟩
  | .hbm, ⟨81, _⟩ => ⟨S32x2048x1, .f32⟩
  | .hbm, ⟨82, _⟩ => ⟨S32x2048x1, .f32⟩
  | .hbm, ⟨83, _⟩ => ⟨S32x2048x1024, .f32⟩
  | .hbm, ⟨84, _⟩ => ⟨S32x2048x1024, .f32⟩
  | .hbm, ⟨85, _⟩ => ⟨S1x1x1024, .f32⟩
  | .hbm, ⟨86, _⟩ => ⟨S32x2048x1024, .f32⟩
  | .hbm, ⟨87, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel6.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x16x1024 : Shape := ⟨3, ![1, 16, 1024]⟩
abbrev S1x512x1024 : Shape := ⟨3, ![1, 512, 1024]⟩
abbrev S544x1024 : Shape := ⟨2, ![544, 1024]⟩
abbrev S512x2816 : Shape := ⟨2, ![512, 2816]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1024x256 : Shape := ⟨2, ![1024, 256]⟩
abbrev S544x256 : Shape := ⟨2, ![544, 256]⟩
abbrev S512x256 : Shape := ⟨2, ![512, 256]⟩
abbrev S3x256 : Shape := ⟨2, ![3, 256]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x2816, .f32⟩
  | .hbm, ⟨11, _⟩ => ⟨S1x1024, .f32⟩
  | .hbm, ⟨12, _⟩ => ⟨S16x2048x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S544x1024, .bf16⟩
  | .local _ .vmem, ⟨15, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x5632, .f32⟩
  | .hbm, ⟨24, _⟩ => ⟨S16x2048x2816, .f32⟩
  | .hbm, ⟨25, _⟩ => ⟨S16x2048x2816, .f32⟩
  | .hbm, ⟨26, _⟩ => ⟨S_, .i32⟩
  | .hbm, ⟨27, _⟩ => ⟨S_, .f32⟩
  | .hbm, ⟨28, _⟩ => ⟨S16x2050x2816, .f32⟩
  | .hbm, ⟨29, _⟩ => ⟨S16x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S1x2816, .f32⟩
  | .hbm, ⟨37, _⟩ => ⟨S2816, .f32⟩
  | .hbm, ⟨38, _⟩ => ⟨S1x1x2816, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x2816, .f32⟩
  | .hbm, ⟨43, _⟩ => ⟨S1x2816, .f32⟩
  | .hbm, ⟨44, _⟩ => ⟨S2816, .f32⟩
  | .hbm, ⟨45, _⟩ => ⟨S1x1x2816, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S1x1x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S_, .f32⟩
  | .hbm, ⟨63, _⟩ => ⟨S16x2048x2816, .f32⟩
  | .hbm, ⟨64, _⟩ => ⟨S16x2048x2816, .f32⟩
  | .hbm, ⟨65, _⟩ => ⟨S_, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x1024, .f32⟩
  | .hbm, ⟨71, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Proof.Frames.lean ====
module
public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import Idealize.ShloMosaic.Lib.Claim
public import Idealize.ShloMosaic.Lib.Quiescent
@[expose] public section
set_option maxRecDepth 16384
noncomputable section
open Idealize.ShloMosaic Idealize.ShloMosaic.TcCoe Idealize.SL.Sem

/-! # Every program runs, ends, and leaves its arguments and counters as they were -/

namespace Cert.Proof

theorem quiescentKernel : quiescent_Kernel (hKernel := Cert.Kernel.Gen.facts) := fun m g _ => Cert.Kernel.Gen.frame m g
theorem quiescentKernelIdeal : quiescent_KernelIdeal (hKernelIdeal := Cert.KernelIdeal.Gen.facts) := fun m g _ => Cert.KernelIdeal.Gen.frame m g
theorem quiescentKernel2 : quiescent_Kernel2 (hKernel2 := Cert.Kernel2.Gen.facts) := fun m g _ => Cert.Kernel2.Gen.frame m g
theorem quiescentKernel2Ideal : quiescent_Kernel2Ideal (hKernel2Ideal := Cert.Kernel2Ideal.Gen.facts) := fun m g _ => Cert.Kernel2Ideal.Gen.frame m g
theorem quiescentKernel3 : quiescent_Kernel3 (hKernel3 := Cert.Kernel3.Gen.facts) := fun m g _ => Cert.Kernel3.Gen.frame m g
theorem quiescentKernel3Ideal : quiescent_Kernel3Ideal (hKernel3Ideal := Cert.Kernel3Ideal.Gen.facts) := fun m g _ => Cert.Kernel3Ideal.Gen.frame m g
theorem quiescentKernel4 : quiescent_Kernel4 (hKernel4 := Cert.Kernel4.Gen.facts) := fun m g _ => Cert.Kernel4.Gen.frame m g
theorem quiescentKernel4Ideal : quiescent_Kernel4Ideal (hKernel4Ideal := Cert.Kernel4Ideal.Gen.facts) := fun m g _ => Cert.Kernel4Ideal.Gen.frame m g
theorem quiescentKernel5 : quiescent_Kernel5 (hKernel5 := Cert.Kernel5.Gen.facts) := fun m g _ => Cert.Kernel5.Gen.frame m g
theorem quiescentKernel5Ideal : quiescent_Kernel5Ideal (hKernel5Ideal := Cert.Kernel5Ideal.Gen.facts) := fun m g _ => Cert.Kernel5Ideal.Gen.frame m g
theorem quiescentKernel6 : quiescent_Kernel6 (hKernel6 := Cert.Kernel6.Gen.facts) := fun m g _ => Cert.Kernel6.Gen.frame m g
theorem quiescentKernel6Ideal : quiescent_Kernel6Ideal (hKernel6Ideal := Cert.Kernel6Ideal.Gen.facts) := fun m g _ => Cert.Kernel6Ideal.Gen.frame m g

theorem quiescentReference : quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run m g)

theorem quiescentReference2 : quiescent_Reference2Ideal (hReference2Ideal := Cert.Reference2Ideal.Gen.facts) := by
  intro m g _
  exact (θ_run _ _ _).mono (fun r h => ⟨fun c => (h c).2, sem_eq_zero_of_no_sems rfl r.2⟩) (Cert.Reference2Ideal.Value.run m g)

theorem quiescentReference3 : quiescent_Reference3Ideal (hReference3Ideal := Cert.Reference3Ideal.Gen.facts) := by
  intro m g _
  exact (θ_run _ _ _).mono (fun r h => ⟨fun c => (h c).2.2, sem_eq_zero_of_no_sems rfl r.2⟩) (Cert.Reference3Ideal.Value.run m g)

theorem quiescentReference4 : quiescent_Reference4Ideal (hReference4Ideal := Cert.Reference4Ideal.Gen.facts) := by
  intro m g _
  exact (θ_run _ _ _).mono (fun r h => ⟨fun c => (h c).2, sem_eq_zero_of_no_sems rfl r.2⟩) (Cert.Reference4Ideal.Value.run m g)

theorem quiescentReference5 : quiescent_Reference5Ideal (hReference5Ideal := Cert.Reference5Ideal.Gen.facts) := by
  intro m g _
  exact (θ_run _ _ _).mono (fun r h => ⟨fun c => (h c).2, sem_eq_zero_of_no_sems rfl r.2⟩) (Cert.Reference5Ideal.Value.run m g)

theorem quiescentReference6 : quiescent_Reference6Ideal (hReference6Ideal := Cert.Reference6Ideal.Gen.facts) := by
  intro m g _
  exact (θ_run _ _ _).mono (fun r h => ⟨fun c => (h c).2, sem_eq_zero_of_no_sems rfl r.2⟩) (Cert.Reference6Ideal.Value.run m g)

end Cert.Proof
-- ==== Proof.Row.lean ====
module
public import Idealize.ShloMosaic.Lib.Pipeline.ValueKit
public import Idealize.ShloMosaic.Lib.Pointwise
@[expose] public section
noncomputable section
open Idealize.ShloMosaic Idealize.ShloMosaic.TcCoe Idealize.SL.Sem

/-! # The formulas of the layer for one row

A row is the 1024 channels of one token.  Every formula below is over the extended reals; the kernel's blocks and the
reference's arrays are both shown to hold these values. -/

namespace Cert.Row

/-- Row vector times matrix. -/
def dot {n p : ℕ} (a : Fin n → EReal) (w : Fin n → Fin p → EReal) (c : Fin p) : EReal := ∑ k, a k * w k c

/-- RMS normalisation of a row of 1024 channels, times a gain. -/
def norm (a g : Fin 1024 → EReal) (c : Fin 1024) : EReal :=
  a c * Ideal.rsqrt (Ideal.div (∑ k, a k * a k) (Ideal.ofBits FTy.f32 1149239296#32) + Ideal.ofBits FTy.f32 897988541#32) * g c

/-- The residual row after the mixer's output map. -/
def mix (x y : Fin 1024 → EReal) (w : Fin 1024 → Fin 1024 → EReal) (b : Fin 1024 → EReal) (c : Fin 1024) : EReal :=
  x c + (dot y w c + b c)

/-- Scaled score of a head's query against memory token `i`. -/
def score (q : Fin 256 → EReal) (K : Fin 256 → Fin 256 → EReal) (i : Fin 256) : EReal :=
  (∑ d, q d * K i d) * Ideal.ofBits FTy.f32 1031798784#32

/-- Exponential of `a i` less the row's maximum. -/
def expo (a : Fin 256 → EReal) (i : Fin 256) : EReal :=
  Ideal.exp (a i - Finset.fold max (Ideal.ofBits FTy.f32 4286578688#32) a Finset.univ)

/-- Softmax over the 256 memory tokens. -/
def softmax (a : Fin 256 → EReal) (i : Fin 256) : EReal := Ideal.div (expo a i) (∑ j, expo a j)

/-- One head's attention output. -/
def head (q : Fin 256 → EReal) (K V : Fin 256 → Fin 256 → EReal) (d : Fin 256) : EReal :=
  ∑ i, softmax (score q K) i * V i d

/-- The four heads side by side: channel `c` belongs to head `c / 256`. -/
def heads (q : Fin 1024 → EReal) (K V : Fin 256 → Fin 1024 → EReal) (c : Fin 1024) : EReal :=
  head (fun d => q ⟨c / 256 * 256 + d, by omega⟩) (fun i d => K i ⟨c / 256 * 256 + d, by omega⟩)
    (fun i d => V i ⟨c / 256 * 256 + d, by omega⟩) ⟨c % 256, by omega⟩

/-- The residual row after an output map of any width without a bias. -/
def mixPlain {n : ℕ} (x : Fin 1024 → EReal) (y : Fin n → EReal) (w : Fin n → Fin 1024 → EReal) (c : Fin 1024) : EReal := x c + dot y w c

/-- Norm, attention, output map and residual of one row. -/
def attend (h g : Fin 1024 → EReal) (K V : Fin 256 → Fin 1024 → EReal) (wq wo : Fin 1024 → Fin 1024 → EReal) (c : Fin 1024) : EReal :=
  h c + dot (heads (dot (norm h g) wq) K V) wo c

/-- The row before token `s` of a sequence of 2048, zero before the first. -/
def before (n : Fin 2048 → Fin 1024 → EReal) (s : Fin 2048) : Fin 1024 → EReal :=
  if h : 0 < (s : ℕ) then n ⟨s - 1, by omega⟩ else fun _ => 0

/-- The row after token `s`, zero after the last. -/
def after (n : Fin 2048 → Fin 1024 → EReal) (s : Fin 2048) : Fin 1024 → EReal :=
  if h : (s : ℕ) + 1 < 2048 then n ⟨s + 1, h⟩ else fun _ => 0

theorem dot_zero {n p : ℕ} (w : Fin n → Fin p → EReal) (c : Fin p) : dot (fun _ => 0) w c = 0 :=
  Finset.sum_eq_zero fun k _ => zero_mul _

/-- A tap of three positions with its bias. -/
def conv (a b c : EReal) (w : Fin 3 → EReal) (z : EReal) : EReal := a * w 0 + b * w 1 + c * w 2 + z

/-- The tanh form of GELU. -/
def gelu (g : EReal) : EReal :=
  g * (Ideal.ofBits FTy.f32 0x3F000000#32 * (Ideal.ofBits FTy.f32 0x3F800000#32
    + Ideal.tanh (Ideal.ofBits FTy.f32 0x3F4C422A#32 * (g + Ideal.ofBits FTy.f32 0x3D372713#32 * (g * g * g)))))

/-- One hidden channel of the gated convolutional network, from the normed rows before, at and after the token. -/
def hidden (p n q : Fin 1024 → EReal) (wu : Fin 1024 → Fin 5632 → EReal) (cw : Fin 3 → Fin 2816 → EReal) (cb : Fin 2816 → EReal)
    (f : Fin 2816) : EReal :=
  gelu (conv (dot p wu ⟨f, by omega⟩) (dot n wu ⟨f, by omega⟩) (dot q wu ⟨f, by omega⟩) (fun k => cw k f) (cb f))
    * dot n wu ⟨2816 + f, by omega⟩

/-- The network's row with residual. -/
def ffnPlain (x p n q : Fin 1024 → EReal) (wu : Fin 1024 → Fin 5632 → EReal) (cw : Fin 3 → Fin 2816 → EReal) (cb : Fin 2816 → EReal)
    (wd : Fin 2816 → Fin 1024 → EReal) : Fin 1024 → EReal :=
  fun c => x c + dot (hidden p n q wu cw cb) wd c

/-- The network's row with residual and final norm. -/
def ffn (x p n q : Fin 1024 → EReal) (wu : Fin 1024 → Fin 5632 → EReal) (cw : Fin 3 → Fin 2816 → EReal) (cb : Fin 2816 → EReal)
    (wd : Fin 2816 → Fin 1024 → EReal) (gf : Fin 1024 → EReal) : Fin 1024 → EReal :=
  norm (ffnPlain x p n q wu cw cb wd) gf

end Cert.Row
-- ==== Proof.AttnBlock.lean ====
module
public import proofs.«01_k».proof.Proof.Gen.KernelIdeal.Value
public import proofs.«01_k».proof.Proof.Row
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

/-! # The four heads of one block of rows

Both attention calls store the same four columns of heads, cut into statements at different places. -/

namespace Cert.KernelIdeal.Attn
open Cert.KernelIdeal Cert.KernelIdeal.Gen

/-- One head of a block: its queries, keys and values. -/
def headOf (q : FVec Ideal S1024x256 .f32) (K V : FVec Ideal S1x256x256 .bf16) : FVec Ideal S1024x256 .bf16 :=
  k0_pay6 (F := Ideal) (matmul dot_S1024x256_S256x256_S1024x256_1_1_0_0_n_n none (truncf .bf16 q bitsLt_bf16_f32)
    (shapeCast S256x256 K shapeCasts_S1x256x256_S256x256) (constant S1024x256 .f32 0x00000000#32)) V

theorem headOf_at (q : FVec Ideal S1024x256 .f32) (K V : FVec Ideal S1x256x256 .bf16) (r : Fin 1024) (d : Fin 256) :
    headOf q K V (ix2 r d) = Row.head (fun e => q (ix2 r e)) (fun i e => K (ix3 0 i e)) (fun i e => V (ix3 0 i e)) d := by
  unfold Row.head Row.softmax Row.expo Row.score
  pointwise [headOf, k0_pay6]

/-- What the four heads leave side by side. -/
def HeadsAt (q : FVec Ideal S1024x1024 .f32) (K V : FVec Ideal S1x256x1024 .bf16) (i : S1024x1024.Idx) : EReal :=
  Row.heads (fun k => q (ix2 (i 0) k)) (fun j k => K (ix3 0 j k)) (fun j k => V (ix3 0 j k)) (i 1)

theorem HeadsAt_ix (q : FVec Ideal S1024x1024 .f32) (K V : FVec Ideal S1x256x1024 .bf16) (r c : Fin 1024) :
    HeadsAt q K V (ix2 r c) = Row.heads (fun k => q (ix2 r k)) (fun j k => K (ix3 0 j k)) (fun j k => V (ix3 0 j k)) c := rfl

/-- A head's formula at the head's own columns. -/
theorem heads_block (q : Fin 1024 → EReal) (K V : Fin 256 → Fin 1024 → EReal) (h : ℕ) (h4 : h < 4) (d : Fin 256) (c : Fin 1024)
    (hc : (c : ℕ) = h * 256 + d) :
    Row.head (fun e => q ⟨h * 256 + e, by omega⟩) (fun i e => K i ⟨h * 256 + e, by omega⟩) (fun i e => V i ⟨h * 256 + e, by omega⟩) d
      = Row.heads q K V c := by
  have h1 : (c : ℕ) / 256 = h := by omega
  have h2 : (c : ℕ) % 256 = d := by omega
  unfold Row.heads
  simp only [h1, h2]

/-- A head of the block whose operands are columns `h * 256 …` of the queries, keys and values. -/
theorem headOf_heads (h : ℕ) (h4 : h < 4) (Q : FVec Ideal S1024x1024 .f32) (K V : FVec Ideal S1x256x1024 .bf16)
    (q : FVec Ideal S1024x256 .f32) (Kh Vh : FVec Ideal S1x256x256 .bf16)
    (eq : ∀ r (e : Fin 256), q (ix2 r e) = Q (ix2 r ⟨h * 256 + e, by omega⟩))
    (eK : ∀ i (e : Fin 256), Kh (ix3 0 i e) = K (ix3 0 i ⟨h * 256 + e, by omega⟩))
    (eV : ∀ i (e : Fin 256), Vh (ix3 0 i e) = V (ix3 0 i ⟨h * 256 + e, by omega⟩))
    (z : S1024x256.Idx) (r c : Fin 1024) (hr : (r : ℕ) = z 0) (hc : (c : ℕ) = h * 256 + z 1) : headOf q Kh Vh z = HeadsAt Q K V (ix2 r c) := by
  have er : r = z 0 := Fin.ext hr
  have ez : z = ix2 (z 0) (z 1) := by idx_vars z; rfl
  refine (congrArg (headOf q Kh Vh) ez).trans ((headOf_at q Kh Vh (z 0) (z 1)).trans ?_)
  rw [HeadsAt_ix, er]
  rw [show (fun e => q (ix2 (z 0) e)) = fun e : Fin 256 => Q (ix2 (z 0) ⟨h * 256 + e, by omega⟩) from funext (eq (z 0))]
  simp only [eK, eV]
  exact heads_block (fun k => Q (ix2 (z 0) k)) (fun j k => K (ix3 0 j k)) (fun j k => V (ix3 0 j k)) h h4 (z 1) c hc

/-- The scratch of the four heads at one row and channel. -/
theorem heads_canon (Q : FVec Ideal S1024x1024 .f32) (K V : FVec Ideal S1x256x1024 .bf16) (r c : Fin 1024) :
    View.canon (Val := Elt Ideal) (s := S1024x1024) (e := .bf16)
      [⟨Rect.unit ![0, 768] ![1024, 256] inb_S1024x1024_S1024x256_0_768,
          headOf (extractStridedSlice S1024x256 ![0, 768] Q slices_S1024x1024_o0_768_S1024x256)
            (View.ld (Val := Elt Ideal) (S := S1x256x1024) (e' := .bf16) K (Rect.unit ![0, 0, 768] ![1, 256, 256] inb_S1x256x1024_S1x256x256_0_0_768))
            (View.ld (Val := Elt Ideal) (S := S1x256x1024) (e' := .bf16) V (Rect.unit ![0, 0, 768] ![1, 256, 256] inb_S1x256x1024_S1x256x256_0_0_768))⟩,
        ⟨Rect.unit ![0, 512] ![1024, 256] inb_S1024x1024_S1024x256_0_512,
          headOf (extractStridedSlice S1024x256 ![0, 512] Q slices_S1024x1024_o0_512_S1024x256)
            (View.ld (Val := Elt Ideal) (S := S1x256x1024) (e' := .bf16) K (Rect.unit ![0, 0, 512] ![1, 256, 256] inb_S1x256x1024_S1x256x256_0_0_512))
            (View.ld (Val := Elt Ideal) (S := S1x256x1024) (e' := .bf16) V (Rect.unit ![0, 0, 512] ![1, 256, 256] inb_S1x256x1024_S1x256x256_0_0_512))⟩,
        ⟨Rect.unit ![0, 256] ![1024, 256] inb_S1024x1024_S1024x256_0_256,
          headOf (extractStridedSlice S1024x256 ![0, 256] Q slices_S1024x1024_o0_256_S1024x256)
            (View.ld (Val := Elt Ideal) (S := S1x256x1024) (e' := .bf16) K (Rect.unit ![0, 0, 256] ![1, 256, 256] inb_S1x256x1024_S1x256x256_0_0_256))
            (View.ld (Val := Elt Ideal) (S := S1x256x1024) (e' := .bf16) V (Rect.unit ![0, 0, 256] ![1, 256, 256] inb_S1x256x1024_S1x256x256_0_0_256))⟩,
        ⟨Rect.unit ![0, 0] ![1024, 256] inb_S1024x1024_S1024x256_0_0,
          headOf (extractStridedSlice S1024x256 ![0, 0] Q slices_S1024x1024_o0_0_S1024x256)
            (View.ld (Val := Elt Ideal) (S := S1x256x1024) (e' := .bf16) K (Rect.unit ![0, 0, 0] ![1, 256, 256] inb_S1x256x1024_S1x256x256_0_0_0))
            (View.ld (Val := Elt Ideal) (S := S1x256x1024) (e' := .bf16) V (Rect.unit ![0, 0, 0] ![1, 256, 256] inb_S1x256x1024_S1x256x256_0_0_0))⟩]
      ((Rect.unit (s := S1024x1024) ![0, 0] ![1024, 1024] inb_S1024x1024_S1024x1024_0_0).idx (ix2 r c)) = HeadsAt Q K V (ix2 r c) := by
  canon_tiles z e
  all_goals
    change 0 + 1 * (r : ℕ) = _ at e0
    change 0 + 1 * (c : ℕ) = _ at e1
  case piece0 => refine headOf_heads 3 (by omega) Q K V _ _ _ ?_ ?_ ?_ z r c (by omega) (by omega) <;> intros <;> pointwise <;> blk_ext
  case piece1 => refine headOf_heads 2 (by omega) Q K V _ _ _ ?_ ?_ ?_ z r c (by omega) (by omega) <;> intros <;> pointwise <;> blk_ext
  case piece2 => refine headOf_heads 1 (by omega) Q K V _ _ _ ?_ ?_ ?_ z r c (by omega) (by omega) <;> intros <;> pointwise <;> blk_ext
  case piece3 => refine headOf_heads 0 (by omega) Q K V _ _ _ ?_ ?_ ?_ z r c (by omega) (by omega) <;> intros <;> pointwise <;> blk_ext

/-- The output map and the residual. -/
theorem out_at (wo : FVec Ideal S1024x1024 .bf16) (a : FVec Ideal S1024x1024 .f32) (s : FVec Ideal S1024x1024 .bf16) (r c : Fin 1024) :
    k0_pay2 (F := Ideal) a s wo (ix3 0 r c) = a (ix2 r c) + ∑ k, s (ix2 r k) * wo (ix2 k c) := by
  pointwise [k0_pay2]

end Cert.KernelIdeal.Attn
-- ==== Proof.AttnKernel.lean ====
module
public import proofs.«01_k».proof.Proof.Gen.KernelIdeal.Value
public import proofs.«01_k».proof.Proof.AttnBlock
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

/-! # The attention kernel's blocks hold the row formulas

First the values one grid point computes, over arbitrary blocks; then the output array after all grid points. -/

namespace Cert.KernelIdeal.Attn
open Cert.KernelIdeal Cert.KernelIdeal.Gen

section Blocks
variable (y : FVec Ideal S1x1024x1024 .bf16) (wm : FVec Ideal S1024x1024 .bf16) (b : FVec Ideal S1x1024 .f32)
  (x : FVec Ideal S1x1024x1024 .f32) (g : FVec Ideal S1x1024 .f32) (wq : FVec Ideal S1024x1024 .bf16)

/-- The residual after the mixer's output map. -/
theorem mix_at (r c : Fin 1024) : k0_pay3 (F := Ideal) y wm b x (ix2 r c)
    = Row.mix (fun k => x (ix3 0 r k)) (fun k => y (ix3 0 r k)) (fun k c => wm (ix2 k c)) (fun c => b (ix2 0 c)) c := by
  unfold Row.mix Row.dot
  pointwise [k0_pay3]

/-- The queries of all heads. -/
theorem query_at (r c : Fin 1024) : k0_pay4 (F := Ideal) y wm b x g wq (ix2 r c)
    = Row.dot (Row.norm (fun c => k0_pay3 (F := Ideal) y wm b x (ix2 r c)) (fun c => g (ix2 0 c))) (fun k c => wq (ix2 k c)) c := by
  unfold Row.norm Row.dot
  pointwise [k0_pay4]

end Blocks

variable (m : (ℓ : Loc nD τ sig) → Buf (Elt Ideal) ℓ)

theorem idx : ∀ t : Fin cfg0.N, win0_0.index t = ![t.val / 2, t.val % 2, 0] ∧ win0_1.index t = ![t.val / 2, t.val % 2, 0]
    ∧ win0_5.index t = ![t.val / 2, 0, 0] ∧ win0_6.index t = ![t.val / 2, 0, 0] ∧ win0_9.index t = ![t.val / 2, t.val % 2, 0]
    ∧ win0_2.index t = ![0, 0] ∧ win0_3.index t = ![0, 0] ∧ win0_4.index t = ![0, 0] ∧ win0_7.index t = ![0, 0] ∧ win0_8.index t = ![0, 0] :=
  (by decide +kernel : ∀ t : Fin grid0.N, _)

/-- The output array: each token's row formula of the entry arrays. -/
def Out (c : Dev nD) : FVec Ideal S16x2048x1024 .f32 := fun i => Row.attend
  (Row.mix (fun k => m ((c.tc : Thread nD τ).loc main_arg0) (ix3 (i 0) (i 1) k)) (fun k => m ((c.tc : Thread nD τ).loc main_arg1) (ix3 (i 0) (i 1) k))
    (fun k e => m ((c.tc : Thread nD τ).loc main_arg2) (ix2 k e)) (fun e => m ((c.tc : Thread nD τ).loc main_arg3) (ix1 e)))
  (fun e => m ((c.tc : Thread nD τ).loc main_arg4) (ix1 e))
  (fun j e => m ((c.tc : Thread nD τ).loc main_arg5) (ix3 (i 0) j e)) (fun j e => m ((c.tc : Thread nD τ).loc main_arg6) (ix3 (i 0) j e))
  (fun k e => m ((c.tc : Thread nD τ).loc main_arg7) (ix2 k e)) (fun k e => m ((c.tc : Thread nD τ).loc main_arg8) (ix2 k e)) (i 2)

set_option maxHeartbeats 1000000 in
theorem final (c : Dev nD) : (dats m 0 c).arrAt 9 (cfgs 0).N = Out m c := by
  refine (dats m 0 c).arrAt_eq_of_covers 9 _ (by decide +kernel) fun t _ y => ?_
  blk_simp
  rw [after0_9]
  unfold outsAt0
  frame_out
  obtain ⟨i0, i1, i5, i6, i9, i2, i3, i4, i7, i8⟩ := idx t
  obtain ⟨Bx, hBx⟩ : ∃ B : FVec Ideal S1x1024x1024 .f32, iblk m c 0 t = B := ⟨_, rfl⟩
  obtain ⟨By, hBy⟩ : ∃ B : FVec Ideal S1x1024x1024 .bf16, iblk m c 1 t = B := ⟨_, rfl⟩
  obtain ⟨Bw, hBw⟩ : ∃ B : FVec Ideal S1024x1024 .bf16, iblk m c 2 t = B := ⟨_, rfl⟩
  obtain ⟨Bb, hBb⟩ : ∃ B : FVec Ideal S1x1024 .f32, iblk m c 3 t = B := ⟨_, rfl⟩
  obtain ⟨Bg, hBg⟩ : ∃ B : FVec Ideal S1x1024 .f32, iblk m c 4 t = B := ⟨_, rfl⟩
  obtain ⟨BK, hBK⟩ : ∃ B : FVec Ideal S1x256x1024 .bf16, iblk m c 5 t = B := ⟨_, rfl⟩
  obtain ⟨BV, hBV⟩ : ∃ B : FVec Ideal S1x256x1024 .bf16, iblk m c 6 t = B := ⟨_, rfl⟩
  obtain ⟨Bq, hBq⟩ : ∃ B : FVec Ideal S1024x1024 .bf16, iblk m c 7 t = B := ⟨_, rfl⟩
  obtain ⟨Bo, hBo⟩ : ∃ B : FVec Ideal S1024x1024 .bf16, iblk m c 8 t = B := ⟨_, rfl⟩
  rw [hBx, hBy, hBw, hBb, hBg, hBK, hBV, hBq, hBo]
  rw [View.readCov_eq_canon']
  idx_vars y
  obtain rfl : y0 = 0 := Fin.ext (by omega)
  rw [out_at]
  refine Eq.trans (b := k0_pay3 (F := Ideal) By Bw Bb Bx (ix2 y1 y2)
    + ∑ k, HeadsAt (k0_pay4 (F := Ideal) By Bw Bb Bx Bg Bq) BK BV (ix2 y1 k) * Bo (ix2 k y2)) ?_ ?_
  · refine congrArg (_ + ·) (Finset.sum_congr rfl fun k _ => congrArg (· * _) ?_)
    exact heads_canon (k0_pay4 (F := Ideal) By Bw Bb Bx Bg Bq) BK BV y1 k
  · unfold Out Row.attend
    simp only [HeadsAt_ix, query_at, mix_at]
    obtain ⟨J, hJ⟩ : ∃ J : S16x2048x1024.Idx, ((View.whole main_v5).slice (win0_9.rect t)).emb (ix3 0 y1 y2) = J := ⟨_, rfl⟩
    have j0 : (J 0 : ℕ) = t.val / 2 := by rw [← hJ]; blk_simp [i9]; simp
    have j1 : (J 1 : ℕ) = t.val % 2 * 1024 + y1 := by rw [← hJ]; blk_simp [i9]
    have j2 : J 2 = y2 := by rw [← hJ]; refine Fin.ext ?_; blk_simp [i9]
    rw [hJ, j2]
    have hx : ∀ k, Bx (ix3 0 y1 k) = m ((c.tc : Thread nD τ).loc main_arg0) (ix3 (J 0) (J 1) k) := by
      intro k; rw [← hBx]; blk_point [iblk, V, i0]
    have hy : ∀ k, By (ix3 0 y1 k) = m ((c.tc : Thread nD τ).loc main_arg1) (ix3 (J 0) (J 1) k) := by
      intro k; rw [← hBy]; blk_point [iblk, V, i1]
    have hK : ∀ j k, BK (ix3 0 j k) = m ((c.tc : Thread nD τ).loc main_arg5) (ix3 (J 0) j k) := by
      intro j k; rw [← hBK]; blk_point [iblk, V, i5]
    have hV : ∀ j k, BV (ix3 0 j k) = m ((c.tc : Thread nD τ).loc main_arg6) (ix3 (J 0) j k) := by
      intro j k; rw [← hBV]; blk_point [iblk, V, i6]
    have hw : ∀ j k, Bw (ix2 j k) = m ((c.tc : Thread nD τ).loc main_arg2) (ix2 j k) := by
      intro j k; rw [← hBw]; blk_simp [iblk, i2]; entry_read; pointwise; blk_ext [i2]
    have hq : ∀ j k, Bq (ix2 j k) = m ((c.tc : Thread nD τ).loc main_arg7) (ix2 j k) := by
      intro j k; rw [← hBq]; blk_simp [iblk, i7]; entry_read; pointwise; blk_ext [i7]
    have ho : ∀ j k, Bo (ix2 j k) = m ((c.tc : Thread nD τ).loc main_arg8) (ix2 j k) := by
      intro j k; rw [← hBo]; blk_simp [iblk, i8]; entry_read; pointwise; blk_ext [i8]
    have hb : ∀ k, Bb (ix2 0 k) = m ((c.tc : Thread nD τ).loc main_arg3) (ix1 k) := by
      intro k; rw [← hBb]; blk_simp [iblk, i3]; entry_read; pointwise; blk_ext [i3]
    have hg : ∀ k, Bg (ix2 0 k) = m ((c.tc : Thread nD τ).loc main_arg4) (ix1 k) := by
      intro k; rw [← hBg]; blk_simp [iblk, i4]; entry_read; pointwise; blk_ext [i4]
    simp only [hx, hy, hK, hV, hw, hq, ho, hb, hg]
    rfl

end Cert.KernelIdeal.Attn
-- ==== Proof.AttnRef.lean ====
module
public import proofs.«01_k».proof.Proof.Gen.ReferenceIdeal.Run
public import proofs.«01_k».proof.Proof.Row
public import Idealize.ShloMosaic.Lib.Pipeline.ValueKit
public import Idealize.ShloMosaic.Lib.Pointwise
public import Idealize.ShloMosaic.Lib.KernelVsHost
@[expose] public section
set_option maxRecDepth 16384
noncomputable section
open Idealize.ShloMosaic Idealize.ShloMosaic.TcCoe Idealize.SL.Sem

/-! # The attention reference, stage by stage

The reference's result is cut into five stages, each a function of whole arrays; each stage is read at one index, and
the stages put together give the row formula `Cert.Row.attend`. -/

namespace Cert.ReferenceIdeal.Attn
open Cert.ReferenceIdeal Cert.ReferenceIdeal.Gen Cert.ReferenceIdeal.Value

/-- The residual after the mixer's output map. -/
def stMix (x : FVec Ideal S16x2048x1024 .f32) (y : FVec Ideal S16x2048x1024 .bf16) (w : FVec Ideal S1024x1024 .f32)
    (b : FVec Ideal S1024 .f32) : FVec Ideal S16x2048x1024 .f32 :=
  addf x (addf (Host.dotGeneral dot_S16x2048x1024_S1024x1024_S16x2048x1024_2_0_01_1_n_n none (extf .f32 y bitsLt_bf16_f32) w)
    (broadcastInDim S16x2048x1024 ![0, 1, 2] bcast_S1x1x1024_S16x2048x1024_0_1_2 (broadcastInDim S1x1x1024 ![2] bcast_S1024_S1x1x1024_2 b)))

/-- The RMS norm of every row. -/
def stNorm (h : FVec Ideal S16x2048x1024 .f32) (g : FVec Ideal S1024 .f32) : FVec Ideal S16x2048x1024 .f32 :=
  mulf (mulf h (broadcastInDim S16x2048x1024 ![0, 1, 2] bcast_S16x2048x1_S16x2048x1024_0_1_2
      (Host.rsqrt (addf (Host.divf (broadcastInDim S16x2048x1 ![0, 1] bcast_S16x2048_S16x2048x1_0_1
          (Host.reduceAdd (mulf h h) (constant S_ .f32 0x00000000#32) reducesTo_S16x2048x1024_S16x2048_d2 h_S_))
        (broadcastInDim S16x2048x1 ![] bcast_S_S16x2048x1 (constant S_ .f32 0x44800000#32)))
        (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g))

/-- The scaled scores of every head from the normed rows. -/
def stScore (n : FVec Ideal S16x2048x1024 .f32) (wq : FVec Ideal S1024x1024 .f32) (K : FVec Ideal S16x256x1024 .bf16) :
    FVec Ideal S16x4x2048x256 .f32 :=
  mulf (Host.dotGeneral dot_S16x2048x4x256_S16x256x4x256_S16x4x2048x256_3_3_1_1_02_02 none
      (shapeCast _ (Host.dotGeneral dot_S16x2048x1024_S1024x1024_S16x2048x1024_2_0_01_1_n_n none n wq) shapeCasts_S16x2048x1024_S16x2048x4x256)
      (shapeCast _ (extf .f32 K bitsLt_bf16_f32) shapeCasts_S16x256x1024_S16x256x4x256))
    (broadcastInDim S16x4x2048x256 ![] bcast_S_S16x4x2048x256 (constant S_ .f32 0x3D800000#32))

/-- The exponentials of the scores less their row maximum. -/
def stExp (s : FVec Ideal S16x4x2048x256 .f32) : FVec Ideal S16x4x2048x256 .f32 :=
  Host.exp (subf s (broadcastInDim S16x4x2048x256 ![0, 1, 2, 3] bcast_S16x4x2048x1_S16x4x2048x256_0_1_2_3
    (broadcastInDim S16x4x2048x1 ![0, 1, 2] bcast_S16x4x2048_S16x4x2048x1_0_1_2
      (maximumf (broadcastInDim S16x4x2048 ![] bcast_S_S16x4x2048 (constant S_ .f32 0xFF800000#32))
        (Host.reduce FloatOps.maximumf s (constant S_ .f32 0xFF800000#32) reducesTo_S16x4x2048x256_S16x4x2048_d3 h_S_)))))

/-- The heads' outputs, side by side, and the output map. -/
def stOut (h : FVec Ideal S16x2048x1024 .f32) (e : FVec Ideal S16x4x2048x256 .f32) (V : FVec Ideal S16x256x1024 .bf16)
    (wo : FVec Ideal S1024x1024 .f32) : FVec Ideal S16x2048x1024 .f32 :=
  addf h (Host.dotGeneral dot_S16x2048x1024_S1024x1024_S16x2048x1024_2_0_01_1_n_n none
    (shapeCast _ (transpose S16x2048x4x256 [0, 3, 1, 2]
      (Host.dotGeneral dot_S16x256x4x256_S16x4x2048x256_S16x4x256x2048_1_3_3_2_02_01 none
        (shapeCast _ (extf .f32 V bitsLt_bf16_f32) shapeCasts_S16x256x1024_S16x256x4x256)
        (Host.divf e (broadcastInDim S16x4x2048x256 ![0, 1, 2, 3] bcast_S16x4x2048x1_S16x4x2048x256_0_1_2_3
          (broadcastInDim S16x4x2048x1 ![0, 1, 2] bcast_S16x4x2048_S16x4x2048x1_0_1_2
            (Host.reduceAdd e (constant S_ .f32 0x00000000#32) reducesTo_S16x4x2048x256_S16x4x2048_d3 h_S_)))))
      transposes_S16x4x256x2048_S16x2048x4x256_0_3_1_2) shapeCasts_S16x2048x4x256_S16x2048x1024) wo)

theorem stMix_at (x : FVec Ideal S16x2048x1024 .f32) (y : FVec Ideal S16x2048x1024 .bf16) (w : FVec Ideal S1024x1024 .f32)
    (b : FVec Ideal S1024 .f32) (i : Fin 16) (s : Fin 2048) (d : Fin 1024) :
    stMix x y w b (ix3 i s d) = Row.mix (fun k => x (ix3 i s k)) (fun k => y (ix3 i s k)) (fun k c => w (ix2 k c)) (fun c => b (ix1 c)) d := by
  unfold Row.mix Row.dot
  pointwise [stMix]

theorem stNorm_at (h : FVec Ideal S16x2048x1024 .f32) (g : FVec Ideal S1024 .f32) (i : Fin 16) (s : Fin 2048) (d : Fin 1024) :
    stNorm h g (ix3 i s d) = Row.norm (fun k => h (ix3 i s k)) (fun c => g (ix1 c)) d := by
  unfold Row.norm
  pointwise [stNorm]

theorem stScore_at (n : FVec Ideal S16x2048x1024 .f32) (wq : FVec Ideal S1024x1024 .f32) (K : FVec Ideal S16x256x1024 .bf16)
    (i : Fin 16) (h : Fin 4) (s : Fin 2048) (j : Fin 256) :
    stScore n wq K (ix4 i h s j) = Row.score
      (fun d => Row.dot (fun k => n (ix3 i s k)) (fun k c => wq (ix2 k c)) (⟨h * 256 + d, by omega⟩ : Fin 1024))
      (fun j d => K (ix3 i j ⟨h * 256 + d, by omega⟩)) j := by
  unfold Row.score Row.dot
  pointwise [stScore]

/-- The row maximum written by the host is the same fold of maxima. -/
theorem rowMax_at (sc : FVec Ideal S16x4x2048x256 .f32) (i : Fin 16) (h : Fin 4) (s : Fin 2048) :
    Host.reduce FloatOps.maximumf sc (constant S_ .f32 0xFF800000#32) reducesTo_S16x4x2048x256_S16x4x2048_d3 h_S_ (ix3 i h s)
      = Finset.univ.fold max (Ideal.ofBits FTy.f32 4286578688#32) (fun j : Fin 256 => sc (ix4 i h s j)) := by
  refine (congrFun (hostReduce_maximumf_eq_multiReduction sc 0xFF800000#32 reducesTo_S16x4x2048x256_S16x4x2048_d3 h_S_
    (by decide) (by decide) rfl) (ix3 i h s)).trans ?_
  pointwise

theorem expOver_at (sc : FVec Ideal S16x4x2048x256 .f32) (M : FVec Ideal S16x4x2048 .f32) (i : Fin 16) (h : Fin 4) (s : Fin 2048)
    (j : Fin 256) :
    Host.exp (subf sc (broadcastInDim S16x4x2048x256 ![0, 1, 2, 3] bcast_S16x4x2048x1_S16x4x2048x256_0_1_2_3
      (broadcastInDim S16x4x2048x1 ![0, 1, 2] bcast_S16x4x2048_S16x4x2048x1_0_1_2
        (maximumf (broadcastInDim S16x4x2048 ![] bcast_S_S16x4x2048 (constant S_ .f32 0xFF800000#32)) M)))) (ix4 i h s j)
      = Ideal.exp (sc (ix4 i h s j) - max (Ideal.ofBits FTy.f32 4286578688#32) (M (ix3 i h s))) := by
  pointwise

theorem stExp_at (sc : FVec Ideal S16x4x2048x256 .f32) (i : Fin 16) (h : Fin 4) (s : Fin 2048) (j : Fin 256) :
    stExp sc (ix4 i h s j) = Row.expo (fun j => sc (ix4 i h s j)) j := by
  refine (expOver_at sc _ i h s j).trans ?_
  rw [rowMax_at, max_eq_right ((Finset.le_fold_max _).mpr (Or.inl le_rfl))]
  rfl

theorem stOut_at (x : FVec Ideal S16x2048x1024 .f32) (e : FVec Ideal S16x4x2048x256 .f32) (V : FVec Ideal S16x256x1024 .bf16)
    (wo : FVec Ideal S1024x1024 .f32) (i : Fin 16) (s : Fin 2048) (d : Fin 1024) :
    stOut x e V wo (ix3 i s d) = x (ix3 i s d) + ∑ c : Fin 1024,
      (∑ j : Fin 256, Ideal.div (e (ix4 i ⟨c / 256, by omega⟩ s j)) (∑ l : Fin 256, e (ix4 i ⟨c / 256, by omega⟩ s l))
         * V (ix3 i j ⟨c / 256 * 256 + (c % 256 : ℕ), by omega⟩)) * wo (ix2 c d) := by
  pointwise [stOut]
  refine congrArg (x (ix3 i s d) + ·) (Finset.sum_congr rfl fun c _ => congrArg (· * wo (ix2 c d)) (Finset.sum_congr rfl fun j _ => ?_))
  rw [mul_comm]
  refine congrArg (_ * ·) (congrArg V (congrArg (ix3 i j) (Fin.ext ?_)))
  show (c : ℕ) = c / 256 * 256 + c % 256
  omega

/-- Norm, attention, output map and residual, from the residual stream after the mixer. -/
def stAttend (h : FVec Ideal S16x2048x1024 .f32) (g : FVec Ideal S1024 .f32) (K V : FVec Ideal S16x256x1024 .bf16)
    (wq wo : FVec Ideal S1024x1024 .f32) : FVec Ideal S16x2048x1024 .f32 :=
  stOut h (stExp (stScore (stNorm h g) wq K)) V wo

theorem stAttend_at (h : FVec Ideal S16x2048x1024 .f32) (g : FVec Ideal S1024 .f32) (K V : FVec Ideal S16x256x1024 .bf16)
    (wq wo : FVec Ideal S1024x1024 .f32) (i : Fin 16) (s : Fin 2048) (d : Fin 1024) :
    stAttend h g K V wq wo (ix3 i s d) = Row.attend (fun k => h (ix3 i s k)) (fun e => g (ix1 e)) (fun j e => K (ix3 i j e))
      (fun j e => V (ix3 i j e)) (fun k e => wq (ix2 k e)) (fun k e => wo (ix2 k e)) d := by
  unfold stAttend
  rw [stOut_at]
  simp only [stExp_at, stScore_at, stNorm_at]
  rfl

variable (m : (ℓ : Loc nD τ sig) → Buf (Elt Ideal) ℓ)

theorem res_eq (c : Dev nD) : res_main_v43 (F := Ideal) m c =
    stAttend (stMix (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) := by
  unfold res_main_v43
  rfl

/-- The reference's result at one index is the row formula of that token. -/
theorem res_at (c : Dev nD) (i : Fin 16) (s : Fin 2048) (d : Fin 1024) :
    res_main_v43 (F := Ideal) m c (ix3 i s d) = Row.attend
      (Row.mix (fun k => m ((c.tc : Thread nD τ).loc main_arg0) (ix3 i s k)) (fun k => m ((c.tc : Thread nD τ).loc main_arg1) (ix3 i s k))
        (fun k e => m ((c.tc : Thread nD τ).loc main_arg2) (ix2 k e)) (fun e => m ((c.tc : Thread nD τ).loc main_arg3) (ix1 e)))
      (fun e => m ((c.tc : Thread nD τ).loc main_arg4) (ix1 e))
      (fun j e => m ((c.tc : Thread nD τ).loc main_arg5) (ix3 i j e)) (fun j e => m ((c.tc : Thread nD τ).loc main_arg6) (ix3 i j e))
      (fun k e => m ((c.tc : Thread nD τ).loc main_arg7) (ix2 k e)) (fun k e => m ((c.tc : Thread nD τ).loc main_arg8) (ix2 k e)) d := by
  rw [res_eq, stAttend_at]
  simp only [stMix_at]

end Cert.ReferenceIdeal.Attn
-- ==== Proof.FfnBlock.lean ====
module
public import proofs.«01_k».proof.Proof.Gen.Kernel2Ideal.Value
public import proofs.«01_k».proof.Proof.Row
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

/-! # What one grid point of the feed-forward kernel computes, over arbitrary blocks -/

namespace Cert.Kernel2Ideal.Ffn
open Cert.Kernel2Ideal Cert.Kernel2Ideal.Gen

/-- One chunk of 256 hidden channels: `xe` are the normed rows with 16 rows before and after, `xs` the rows themselves. -/
def chunk (xe : FVec Ideal S544x1024 .bf16) (wg : FVec Ideal S1024x256 .bf16) (xs : FVec Ideal S512x1024 .bf16) (wv : FVec Ideal S1024x256 .bf16)
    (cw : FVec Ideal S3x256 .f32) (cb : FVec Ideal S1x256 .f32) : FVec Ideal S512x256 .bf16 :=
  k0_pay12 (F := Ideal) (k0_pay8 xe wg) (k0_pay9 xs wv) (k0_pay10 xe wg) (k0_pay11 xe wg) 543#32 cw cb

section Chunks
variable (xe : FVec Ideal S544x1024 .bf16) (wg : FVec Ideal S1024x256 .bf16) (xs : FVec Ideal S512x1024 .bf16) (wv : FVec Ideal S1024x256 .bf16)
    (cw : FVec Ideal S3x256 .f32) (cb : FVec Ideal S1x256 .f32)

theorem gate_at (r : Fin 544) (j : Fin 256) : k0_pay8 (F := Ideal) xe wg (ix2 r j) = Row.dot (fun k => xe (ix2 r k)) (fun k j => wg (ix2 k j)) j := by
  unfold Row.dot
  pointwise [k0_pay8]

theorem value_at (r : Fin 512) (j : Fin 256) : k0_pay9 (F := Ideal) xs wv (ix2 r j) = Row.dot (fun k => xs (ix2 r k)) (fun k j => wv (ix2 k j)) j := by
  unfold Row.dot
  pointwise [k0_pay9]

theorem gateBefore_at (r : Fin 512) (j : Fin 256) : k0_pay10 (F := Ideal) xe wg (ix2 r j) = k0_pay8 (F := Ideal) xe wg (ix2 ⟨15 + r, by omega⟩ j) := by
  pointwise [k0_pay10]
  refine congrArg (k0_pay8 (F := Ideal) xe wg) (congrArg (ix2 · j) (Fin.ext ?_))
  show (16 + (r : ℕ) + 544 - 1) % 544 = 15 + r
  omega

theorem gateHere_at (r : Fin 512) (j : Fin 256) : k0_pay11 (F := Ideal) xe wg (ix2 r j) = k0_pay8 (F := Ideal) xe wg (ix2 ⟨16 + r, by omega⟩ j) := by
  pointwise [k0_pay11]

theorem hidden_at (g : FVec Ideal S544x256 .f32) (v gb gh : FVec Ideal S512x256 .f32) (r : Fin 512) (j : Fin 256) :
    k0_pay12 (F := Ideal) g v gb gh 543#32 cw cb (ix2 r j)
      = Row.gelu (Row.conv (gb (ix2 r j)) (gh (ix2 r j)) (g (ix2 ⟨17 + r, by omega⟩ j)) (fun k => cw (ix2 k j)) (cb (ix2 0 j))) * v (ix2 r j) := by
  have e : (⟨17 + (r : ℕ), by omega⟩ : Fin 544) = ⟨(16 + (r : ℕ) + 544 - 543) % 544, by omega⟩ := Fin.ext (by show 17 + (r : ℕ) = (16 + (r : ℕ) + 544 - 543) % 544; omega)
  rw [e]
  unfold Row.gelu Row.conv
  pointwise [k0_pay12]
  rw [mul_comm (_ * _) (gb (ix2 r j) * cw (ix2 0 j) + _ + _ + _)]

/-- One chunk at a row and a channel. -/
theorem chunk_at (r : Fin 512) (j : Fin 256) : chunk xe wg xs wv cw cb (ix2 r j)
    = Row.gelu (Row.conv (Row.dot (fun k => xe (ix2 ⟨15 + r, by omega⟩ k)) (fun k j => wg (ix2 k j)) j)
        (Row.dot (fun k => xe (ix2 ⟨16 + r, by omega⟩ k)) (fun k j => wg (ix2 k j)) j)
        (Row.dot (fun k => xe (ix2 ⟨17 + r, by omega⟩ k)) (fun k j => wg (ix2 k j)) j) (fun k => cw (ix2 k j)) (cb (ix2 0 j)))
      * Row.dot (fun k => xs (ix2 r k)) (fun k j => wv (ix2 k j)) j := by
  unfold chunk
  rw [hidden_at, gateBefore_at, gateHere_at, gate_at, gate_at, gate_at, value_at]

/-! The other chunks compute the same expression, cut into statements at other places. -/

theorem chunk1 : k0_pay14 (F := Ideal) (k0_pay13 xe wg) xs wv cw cb = chunk xe wg xs wv cw cb := rfl
theorem chunk2 : k0_pay16 (F := Ideal) (k0_pay15 xe wg xs wv cw cb) = chunk xe wg xs wv cw cb := rfl
theorem chunk3 : k0_pay21 (F := Ideal) (k0_pay17 xs wv) (k0_pay18 xe wg cw cb) (k0_pay19 xe wg cw cb) k0_pay20 = chunk xe wg xs wv cw cb := rfl
theorem chunk4 : k0_pay25 (F := Ideal) (k0_pay22 xs wv) (k0_pay23 xe wg cw) (k0_pay24 cb) = chunk xe wg xs wv cw cb := rfl
theorem chunk5 : k0_pay32 (F := Ideal) (k0_pay27 xs wv) (k0_pay28 xe wg) (k0_pay29 xe wg) cw (k0_pay30 xe wg cw) (k0_pay31 cw) cb = chunk xe wg xs wv cw cb := rfl
theorem chunk6 : k0_pay37 (F := Ideal) (k0_pay33 xe wg) (k0_pay34 xs wv) (k0_pay35 xe wg) (k0_pay36 xe wg) 543#32 cw cb = chunk xe wg xs wv cw cb := rfl
theorem chunk7 : k0_pay39 (F := Ideal) (k0_pay38 xe wg) xs wv cw cb = chunk xe wg xs wv cw cb := rfl
theorem chunk8 : k0_pay41 (F := Ideal) (k0_pay40 xe wg xs wv cw cb) = chunk xe wg xs wv cw cb := rfl
theorem chunk9 : k0_pay46 (F := Ideal) (k0_pay42 xs wv) (k0_pay43 xe wg cw cb) (k0_pay44 xe wg cw cb) k0_pay45 = chunk xe wg xs wv cw cb := rfl
theorem chunk10 : k0_pay50 (F := Ideal) (k0_pay47 xs wv) (k0_pay48 xe wg cw) (k0_pay49 cb) = chunk xe wg xs wv cw cb := rfl
end Chunks

theorem positive_mask : ∀ n : Fin 4, Scalar.cmpi CmpIPredicate.sgt (BitVec.ofNat 32 n) 0#32 = if 0 < (n : ℕ) then 1#1 else 0#1 := by decide

theorem below_mask : ∀ n : Fin 4, Scalar.cmpi CmpIPredicate.slt (BitVec.ofNat 32 n) 3#32 = if (n : ℕ) < 3 then 1#1 else 0#1 := by decide

theorem select_if (p : Prop) [Decidable p] (a b : EReal) : Scalar.select (if p then 1#1 else 0#1) a b = if p then a else b := by
  by_cases h : p <;> simp [h, Scalar.select]

theorem halo_before (i : grid0.Coords) (g : FVec Ideal S1x1024 .f32) (x : FVec Ideal S1x16x1024 .f32) (r : Fin 16) (k : Fin 1024) :
    k0_pay4 (F := Ideal) i g x (ix2 r k)
      = if 0 < (i 1 : ℕ) then Row.norm (fun c => x (ix3 0 r c)) (fun c => g (ix2 0 c)) k else 0 := by
  unfold Row.norm
  pointwise [k0_pay4, k0_pay2]
  rw [positive_mask ⟨(i 1).val, (i 1).isLt⟩]
  exact select_if _ _ _

theorem body_at (g : FVec Ideal S1x1024 .f32) (x : FVec Ideal S1x512x1024 .f32) (r : Fin 512) (k : Fin 1024) :
    k0_pay6 (F := Ideal) (k0_pay5 g x) (ix2 r k) = Row.norm (fun c => x (ix3 0 r c)) (fun c => g (ix2 0 c)) k := by
  unfold Row.norm
  pointwise [k0_pay6, k0_pay5, k0_pay3, k0_pay2]

theorem halo_after (n : Fin 4) (g : FVec Ideal S1x1024 .f32) (x : FVec Ideal S1x16x1024 .f32) (r : Fin 16) (k : Fin 1024) :
    k0_pay7 (F := Ideal) (BitVec.ofNat 32 n) (k0_pay2 g) x (ix2 r k)
      = if (n : ℕ) < 3 then Row.norm (fun c => x (ix3 0 r c)) (fun c => g (ix2 0 c)) k else 0 := by
  unfold Row.norm
  pointwise [k0_pay7, k0_pay2]
  rw [below_mask n]
  exact select_if _ _ _

theorem out_at (x : FVec Ideal S1x512x1024 .f32) (h : FVec Ideal S512x2816 .bf16) (w : FVec Ideal S2816x1024 .bf16) (gf : FVec Ideal S1x1024 .f32)
    (r : Fin 512) (c : Fin 1024) :
    k0_pay1 (F := Ideal) (k0_pay51 (k0_pay3 x) h w gf) (ix3 0 r c)
      = Row.norm (fun c => x (ix3 0 r c) + Row.dot (fun f => h (ix2 r f)) (fun f c => w (ix2 f c)) c) (fun c => gf (ix2 0 c)) c := by
  unfold Row.norm Row.dot
  pointwise [k0_pay1, k0_pay51, k0_pay3]

end Cert.Kernel2Ideal.Ffn
-- ==== Proof.FfnTile.lean ====
module
public import proofs.«01_k».proof.Proof.FfnBlock
@[expose] public section
set_option maxRecDepth 16384
noncomputable section
open Idealize.ShloMosaic Idealize.ShloMosaic.TcCoe Idealize.SL.Sem

/-! # The feed-forward kernel's scratches and its block, over arbitrary blocks

The scratch of normed rows, the scratch of hidden channels, and the block's formula. -/

namespace Cert.Kernel2Ideal.Ffn
open Cert.Kernel2Ideal Cert.Kernel2Ideal.Gen

/-- One hidden channel inside its chunk is the hidden channel `c * 256 + j` of the whole network. -/
theorem hidden_block (c : ℕ) (hc : c < 11) (p n q : Fin 1024 → EReal) (wu : Fin 1024 → Fin 5632 → EReal) (cw : Fin 3 → Fin 2816 → EReal)
    (cb : Fin 2816 → EReal) (wg wv : Fin 1024 → Fin 256 → EReal) (w : Fin 3 → Fin 256 → EReal) (b : Fin 256 → EReal)
    (eg : ∀ k (j : Fin 256), wg k j = wu k ⟨c * 256 + j, by omega⟩) (ev : ∀ k (j : Fin 256), wv k j = wu k ⟨2816 + c * 256 + j, by omega⟩)
    (ew : ∀ k (j : Fin 256), w k j = cw k ⟨c * 256 + j, by omega⟩) (eb : ∀ j : Fin 256, b j = cb ⟨c * 256 + j, by omega⟩)
    (j : Fin 256) (f : Fin 2816) (hf : (f : ℕ) = c * 256 + j) :
    Row.gelu (Row.conv (Row.dot p wg j) (Row.dot n wg j) (Row.dot q wg j) (fun k => w k j) (b j)) * Row.dot n wv j
      = Row.hidden p n q wu cw cb f := by
  have hf' : f = ⟨c * 256 + j, by omega⟩ := Fin.ext hf
  rw [hf']
  unfold Row.hidden Row.dot
  simp only [eg, ev, ew, eb, Nat.add_assoc]

theorem chunk_idx (xe : FVec Ideal S544x1024 .bf16) (wg : FVec Ideal S1024x256 .bf16) (xs : FVec Ideal S512x1024 .bf16) (wv : FVec Ideal S1024x256 .bf16)
    (cw : FVec Ideal S3x256 .f32) (cb : FVec Ideal S1x256 .f32) (z : S512x256.Idx)
    (exs : ∀ (r : Fin 512) k, xs (ix2 r k) = xe (ix2 ⟨16 + r, by omega⟩ k)) (y : Fin 512) (hy : y = z 0) : chunk xe wg xs wv cw cb z
    = Row.gelu (Row.conv (Row.dot (fun k => xe (ix2 ⟨15 + y, by omega⟩ k)) (fun k j => wg (ix2 k j)) (z 1))
        (Row.dot (fun k => xe (ix2 ⟨16 + y, by omega⟩ k)) (fun k j => wg (ix2 k j)) (z 1))
        (Row.dot (fun k => xe (ix2 ⟨17 + y, by omega⟩ k)) (fun k j => wg (ix2 k j)) (z 1)) (fun k => cw (ix2 k (z 1))) (cb (ix2 0 (z 1))))
      * Row.dot (fun k => xe (ix2 ⟨16 + y, by omega⟩ k)) (fun k j => wv (ix2 k j)) (z 1) := by
  subst hy
  have hz : z = ix2 (z 0) (z 1) := by idx_vars z; rfl
  refine (congrArg (chunk xe wg xs wv cw cb) hz).trans ((chunk_at xe wg xs wv cw cb (z 0) (z 1)).trans ?_)
  have ex : (fun k => xs (ix2 (z 0) k)) = fun k => xe (ix2 ⟨16 + (z 0 : ℕ), by have : (z 0 : ℕ) < 512 := (z 0).isLt; omega⟩ k) := funext fun k => exs _ k
  exact congrArg (fun q => _ * Row.dot q _ _) ex

/-- A chunk's value is the row formula's hidden channel, its operands being columns `c * 256 + j` of the whole arrays. -/
theorem chunk_hidden (c : ℕ) (hc : c < 11) (xe : FVec Ideal S544x1024 .bf16) (wg : FVec Ideal S1024x256 .bf16) (xs : FVec Ideal S512x1024 .bf16)
    (wv : FVec Ideal S1024x256 .bf16) (cw : FVec Ideal S3x256 .f32) (cb : FVec Ideal S1x256 .f32) (z : S512x256.Idx)
    (exs : ∀ (r : Fin 512) k, xs (ix2 r k) = xe (ix2 ⟨16 + r, by omega⟩ k)) (y : Fin 512) (hy : y = z 0)
    (U : FVec Ideal S1024x5632 .bf16) (W : FVec Ideal S3x2816 .f32) (B : FVec Ideal S1x2816 .f32)
    (eg : ∀ k (j : Fin 256), wg (ix2 k j) = U (ix2 k ⟨c * 256 + j, by omega⟩))
    (ev : ∀ k (j : Fin 256), wv (ix2 k j) = U (ix2 k ⟨2816 + c * 256 + j, by omega⟩))
    (ew : ∀ k (j : Fin 256), cw (ix2 k j) = W (ix2 k ⟨c * 256 + j, by omega⟩))
    (eb : ∀ j : Fin 256, cb (ix2 0 j) = B (ix2 0 ⟨c * 256 + j, by omega⟩))
    (f : Fin 2816) (hf : (f : ℕ) = c * 256 + z 1) : chunk xe wg xs wv cw cb z
    = Row.hidden (fun k => xe (ix2 ⟨15 + y, by omega⟩ k)) (fun k => xe (ix2 ⟨16 + y, by omega⟩ k)) (fun k => xe (ix2 ⟨17 + y, by omega⟩ k))
        (fun k f => U (ix2 k f)) (fun k f => W (ix2 k f)) (fun f => B (ix2 0 f)) f :=
  (chunk_idx xe wg xs wv cw cb z exs y hy).trans (hidden_block c hc _ _ _ (fun k f => U (ix2 k f)) (fun k f => W (ix2 k f)) (fun f => B (ix2 0 f))
    (fun k j => wg (ix2 k j)) (fun k j => wv (ix2 k j)) (fun k j => cw (ix2 k j)) (fun j => cb (ix2 0 j)) eg ev ew eb (z 1) f hf)

theorem chunk0 (xe : FVec Ideal S544x1024 .bf16) (wg : FVec Ideal S1024x256 .bf16) (xs : FVec Ideal S512x1024 .bf16) (wv : FVec Ideal S1024x256 .bf16)
    (cw : FVec Ideal S3x256 .f32) (cb : FVec Ideal S1x256 .f32) :
    k0_pay12 (F := Ideal) (k0_pay8 xe wg) (k0_pay9 xs wv) (k0_pay10 xe wg) (k0_pay11 xe wg) 543#32 cw cb = chunk xe wg xs wv cw cb := rfl

/-- The scratch of normed rows: 16 rows before the block, the block's 512, 16 after. -/
def Rows (n : Fin 4) (B0 : FVec Ideal S1x16x1024 .f32) (B1 : FVec Ideal S1x512x1024 .f32) (B2 : FVec Ideal S1x16x1024 .f32) (g : FVec Ideal S1x1024 .f32)
    (p : Fin 544) (k : Fin 1024) : EReal :=
  if a : (p : ℕ) < 16 then (if 0 < (n : ℕ) then Row.norm (fun c => B0 (ix3 0 ⟨p, a⟩ c)) (fun c => g (ix2 0 c)) k else 0)
  else if b : (p : ℕ) < 528 then Row.norm (fun c => B1 (ix3 0 ⟨p - 16, by omega⟩ c)) (fun c => g (ix2 0 c)) k
  else (if (n : ℕ) < 3 then Row.norm (fun c => B2 (ix3 0 ⟨p - 528, by omega⟩ c)) (fun c => g (ix2 0 c)) k else 0)

/-- The scratch's rows around row `r` of the block are the sequence's normed rows around the token. -/
theorem rows_around (x : Fin 2048 → Fin 1024 → EReal) (g : Fin 1024 → EReal) (n : Fin 4)
    (B0 : FVec Ideal S1x16x1024 .f32) (B1 : FVec Ideal S1x512x1024 .f32) (B2 : FVec Ideal S1x16x1024 .f32) (G : FVec Ideal S1x1024 .f32)
    (e0 : ∀ (a : 0 < (n : ℕ)) k, B0 (ix3 0 15 k) = x ⟨n * 512 - 1, by omega⟩ k)
    (e1 : ∀ (r : Fin 512) k, B1 (ix3 0 r k) = x ⟨n * 512 + r, by omega⟩ k)
    (e2 : ∀ (a : (n : ℕ) < 3) k, B2 (ix3 0 0 k) = x ⟨n * 512 + 512, by omega⟩ k)
    (eg : ∀ k, G (ix2 0 k) = g k) (r : Fin 512) (s : Fin 2048) (hs : (s : ℕ) = n * 512 + r) :
    (fun k => Rows n B0 B1 B2 G ⟨15 + r, by omega⟩ k) = Row.before (fun s => Row.norm (x s) g) s
    ∧ (fun k => Rows n B0 B1 B2 G ⟨16 + r, by omega⟩ k) = Row.norm (x s) g
    ∧ (fun k => Rows n B0 B1 B2 G ⟨17 + r, by omega⟩ k) = Row.after (fun s => Row.norm (x s) g) s := by
  have hs' : s = ⟨n * 512 + r, by omega⟩ := Fin.ext hs
  rw [hs']
  refine ⟨?_, ?_, ?_⟩ <;> funext k
  · unfold Rows Row.before
    by_cases hr : (r : ℕ) = 0
    · rw [dif_pos (show 15 + (r : ℕ) < 16 by omega)]
      by_cases hn : 0 < (n : ℕ)
      · rw [if_pos hn, dif_pos (show 0 < (n : ℕ) * 512 + r by omega)]
        have er : (⟨15 + (r : ℕ), by omega⟩ : Fin 16) = 15 := Fin.ext (by show 15 + (r : ℕ) = 15; omega)
        rw [er]
        simp only [e0 hn, eg]
        simp only [hr, Nat.add_zero]
      · rw [if_neg hn, dif_neg (show ¬ 0 < (n : ℕ) * 512 + r by omega)]
    · rw [dif_neg (show ¬ 15 + (r : ℕ) < 16 by omega), dif_pos (show 15 + (r : ℕ) < 528 by omega), dif_pos (show 0 < (n : ℕ) * 512 + r by omega)]
      simp only [e1, eg]
      have es : (n : ℕ) * 512 + (15 + r - 16) = n * 512 + r - 1 := by omega
      simp only [es]
  · unfold Rows
    rw [dif_neg (show ¬ 16 + (r : ℕ) < 16 by omega), dif_pos (show 16 + (r : ℕ) < 528 by omega)]
    simp only [e1, eg, Nat.add_sub_cancel_left]
  · unfold Rows Row.after
    by_cases hr : (r : ℕ) = 511
    · rw [dif_neg (show ¬ 17 + (r : ℕ) < 16 by omega), dif_neg (show ¬ 17 + (r : ℕ) < 528 by omega)]
      by_cases hn : (n : ℕ) < 3
      · rw [if_pos hn, dif_pos (show (n : ℕ) * 512 + r + 1 < 2048 by omega)]
        have er : (⟨17 + (r : ℕ) - 528, by omega⟩ : Fin 16) = 0 := Fin.ext (by show 17 + (r : ℕ) - 528 = 0; omega)
        rw [er]
        have es : (n : ℕ) * 512 + r + 1 = n * 512 + 512 := by omega
        simp only [e2 hn, eg, es]
      · rw [if_neg hn, dif_neg (show ¬ (n : ℕ) * 512 + r + 1 < 2048 by omega)]
    · rw [dif_neg (show ¬ 17 + (r : ℕ) < 16 by omega), dif_pos (show 17 + (r : ℕ) < 528 by omega),
        dif_pos (show (n : ℕ) * 512 + r + 1 < 2048 by omega)]
      simp only [e1, eg]
      have es : (n : ℕ) * 512 + (17 + r - 16) = n * 512 + r + 1 := by omega
      simp only [es]

/-- The scratch of normed rows at one row and channel; `A` are the rows before the block. -/
theorem rows_canon (n : Fin 4) (B0 : FVec Ideal S1x16x1024 .f32) (B1 : FVec Ideal S1x512x1024 .f32) (B2 : FVec Ideal S1x16x1024 .f32)
    (B3 : FVec Ideal S1x1024 .f32) (A : FVec Ideal S16x1024 .bf16)
    (hA : ∀ (r : Fin 16) (k : Fin 1024), A (ix2 r k) = if 0 < (n : ℕ) then Row.norm (fun c => B0 (ix3 0 r c)) (fun c => B3 (ix2 0 c)) k else 0)
    (p : Fin 544) (k : Fin 1024) :
    View.canon (Val := Elt Ideal) (s := S544x1024) (e := .bf16)
      [⟨Rect.unit ![528, 0] ![16, 1024] inb_S544x1024_S16x1024_528_0, k0_pay7 (F := Ideal) (BitVec.ofNat 32 n) (k0_pay2 B3) B2⟩,
        ⟨Rect.unit ![16, 0] ![512, 1024] inb_S544x1024_S512x1024_16_0, k0_pay6 (F := Ideal) (k0_pay5 B3 B1)⟩,
        ⟨Rect.unit ![0, 0] ![16, 1024] inb_S544x1024_S16x1024_0_0, A⟩]
      ((Rect.unit (s := S544x1024) ![0, 0] ![544, 1024] inb_S544x1024_S544x1024_0_0).idx (ix2 p k)) = Rows n B0 B1 B2 B3 p k := by
  canon_tiles z e using (by
    have hp := p.isLt
    have hk := k.isLt
    by_cases h1 : 528 ≤ (p : ℕ)
    · refine ⟨_, List.mem_cons_self, (Rect.mem_set_unit (inb := inb_S544x1024_S16x1024_528_0)).2 fun a => ?_⟩
      fin_cases a
      · show 528 ≤ 0 + 1 * (p : ℕ) ∧ 0 + 1 * (p : ℕ) < 528 + 16; omega
      · show 0 ≤ 0 + 1 * (k : ℕ) ∧ 0 + 1 * (k : ℕ) < 0 + 1024; omega
    by_cases h2 : 16 ≤ (p : ℕ)
    · refine ⟨_, List.mem_cons_of_mem _ List.mem_cons_self, (Rect.mem_set_unit (inb := inb_S544x1024_S512x1024_16_0)).2 fun a => ?_⟩
      fin_cases a
      · show 16 ≤ 0 + 1 * (p : ℕ) ∧ 0 + 1 * (p : ℕ) < 16 + 512; omega
      · show 0 ≤ 0 + 1 * (k : ℕ) ∧ 0 + 1 * (k : ℕ) < 0 + 1024; omega
    · refine ⟨_, List.mem_cons_of_mem _ (List.mem_cons_of_mem _ List.mem_cons_self), (Rect.mem_set_unit (inb := inb_S544x1024_S16x1024_0_0)).2 fun a => ?_⟩
      fin_cases a
      · show 0 ≤ 0 + 1 * (p : ℕ) ∧ 0 + 1 * (p : ℕ) < 0 + 16; omega
      · show 0 ≤ 0 + 1 * (k : ℕ) ∧ 0 + 1 * (k : ℕ) < 0 + 1024; omega)
  all_goals
    change 0 + 1 * (p : ℕ) = _ at e0
    change 0 + 1 * (k : ℕ) = _ at e1
    idx_vars z
    obtain rfl : k = z1 := Fin.ext (by omega)
    unfold Rows
  case piece0 =>
    rw [halo_after, dif_neg (by omega), dif_neg (by omega), show (⟨(p : ℕ) - 528, by omega⟩ : Fin 16) = z0 from Fin.ext (by show (p : ℕ) - 528 = z0; omega)]
  case piece1 =>
    rw [body_at, dif_neg (by omega), dif_pos (by omega), show (⟨(p : ℕ) - 16, by omega⟩ : Fin 512) = z0 from Fin.ext (by show (p : ℕ) - 16 = z0; omega)]
  case piece2 =>
    rw [hA, dif_pos (by omega), show (⟨(p : ℕ), by omega⟩ : Fin 16) = z0 from Fin.ext (by show (p : ℕ) = z0; omega)]

/-- One chunk, its weights being columns `o` and `p` on of the whole arrays. -/
def cut (xe : FVec Ideal S544x1024 .bf16) (xs : FVec Ideal S512x1024 .bf16) (U : FVec Ideal S1024x5632 .bf16) (W : FVec Ideal S3x2816 .f32)
    (B : FVec Ideal S1x2816 .f32) (o p : ℕ) (hg : ∀ a, (![0, o] : Fin 2 → ℕ) a + S1024x256.size a ≤ S1024x5632.size a)
    (hv : ∀ a, (![0, p] : Fin 2 → ℕ) a + S1024x256.size a ≤ S1024x5632.size a) (hw : ∀ a, (![0, o] : Fin 2 → ℕ) a + S3x256.size a ≤ S3x2816.size a)
    (hb : ∀ a, (![0, o] : Fin 2 → ℕ) a + S1x256.size a ≤ S1x2816.size a) : FVec Ideal S512x256 .bf16 :=
  chunk xe (View.ld (Val := Elt Ideal) (S := S1024x5632) (e' := .bf16) U (Rect.unit ![0, o] ![1024, 256] hg)) xs
    (View.ld (Val := Elt Ideal) (S := S1024x5632) (e' := .bf16) U (Rect.unit ![0, p] ![1024, 256] hv))
    (View.ld (Val := Elt Ideal) (S := S3x2816) (e' := .f32) W (Rect.unit ![0, o] ![3, 256] hw))
    (View.ld (Val := Elt Ideal) (S := S1x2816) (e' := .f32) B (Rect.unit ![0, o] ![1, 256] hb))

/-- The scratch of hidden channels at one row and channel. -/
theorem hidden_canon (xe : FVec Ideal S544x1024 .bf16) (xs : FVec Ideal S512x1024 .bf16) (U : FVec Ideal S1024x5632 .bf16) (W : FVec Ideal S3x2816 .f32)
    (B : FVec Ideal S1x2816 .f32) (exs : ∀ (r : Fin 512) k, xs (ix2 r k) = xe (ix2 ⟨16 + r, by omega⟩ k)) (y : Fin 512) (f : Fin 2816) :
    View.canon (Val := Elt Ideal) (s := S512x2816) (e := .bf16)
      [⟨Rect.unit ![0, 2560] ![512, 256] inb_S512x2816_S512x256_0_2560, cut xe xs U W B 2560 5376 inb_S1024x5632_S1024x256_0_2560 inb_S1024x5632_S1024x256_0_5376
          inb_S3x2816_S3x256_0_2560 inb_S1x2816_S1x256_0_2560⟩,
        ⟨Rect.unit ![0, 2304] ![512, 256] inb_S512x2816_S512x256_0_2304, cut xe xs U W B 2304 5120 inb_S1024x5632_S1024x256_0_2304 inb_S1024x5632_S1024x256_0_5120
          inb_S3x2816_S3x256_0_2304 inb_S1x2816_S1x256_0_2304⟩,
        ⟨Rect.unit ![0, 2048] ![512, 256] inb_S512x2816_S512x256_0_2048, cut xe xs U W B 2048 4864 inb_S1024x5632_S1024x256_0_2048 inb_S1024x5632_S1024x256_0_4864
          inb_S3x2816_S3x256_0_2048 inb_S1x2816_S1x256_0_2048⟩,
        ⟨Rect.unit ![0, 1792] ![512, 256] inb_S512x2816_S512x256_0_1792, cut xe xs U W B 1792 4608 inb_S1024x5632_S1024x256_0_1792 inb_S1024x5632_S1024x256_0_4608
          inb_S3x2816_S3x256_0_1792 inb_S1x2816_S1x256_0_1792⟩,
        ⟨Rect.unit ![0, 1536] ![512, 256] inb_S512x2816_S512x256_0_1536, cut xe xs U W B 1536 4352 inb_S1024x5632_S1024x256_0_1536 inb_S1024x5632_S1024x256_0_4352
          inb_S3x2816_S3x256_0_1536 inb_S1x2816_S1x256_0_1536⟩,
        ⟨Rect.unit ![0, 1280] ![512, 256] inb_S512x2816_S512x256_0_1280, cut xe xs U W B 1280 4096 inb_S1024x5632_S1024x256_0_1280 inb_S1024x5632_S1024x256_0_4096
          inb_S3x2816_S3x256_0_1280 inb_S1x2816_S1x256_0_1280⟩,
        ⟨Rect.unit ![0, 1024] ![512, 256] inb_S512x2816_S512x256_0_1024, cut xe xs U W B 1024 3840 inb_S1024x5632_S1024x256_0_1024 inb_S1024x5632_S1024x256_0_3840
          inb_S3x2816_S3x256_0_1024 inb_S1x2816_S1x256_0_1024⟩,
        ⟨Rect.unit ![0, 768] ![512, 256] inb_S512x2816_S512x256_0_768, cut xe xs U W B 768 3584 inb_S1024x5632_S1024x256_0_768 inb_S1024x5632_S1024x256_0_3584
          inb_S3x2816_S3x256_0_768 inb_S1x2816_S1x256_0_768⟩,
        ⟨Rect.unit ![0, 512] ![512, 256] inb_S512x2816_S512x256_0_512, cut xe xs U W B 512 3328 inb_S1024x5632_S1024x256_0_512 inb_S1024x5632_S1024x256_0_3328
          inb_S3x2816_S3x256_0_512 inb_S1x2816_S1x256_0_512⟩,
        ⟨Rect.unit ![0, 256] ![512, 256] inb_S512x2816_S512x256_0_256, cut xe xs U W B 256 3072 inb_S1024x5632_S1024x256_0_256 inb_S1024x5632_S1024x256_0_3072
          inb_S3x2816_S3x256_0_256 inb_S1x2816_S1x256_0_256⟩,
        ⟨Rect.unit ![0, 0] ![512, 256] inb_S512x2816_S512x256_0_0, cut xe xs U W B 0 2816 inb_S1024x5632_S1024x256_0_0 inb_S1024x5632_S1024x256_0_2816
          inb_S3x2816_S3x256_0_0 inb_S1x2816_S1x256_0_0⟩]
      ((Rect.unit (s := S512x2816) ![0, 0] ![512, 2816] inb_S512x2816_S512x2816_0_0).idx (ix2 y f))
    = Row.hidden (fun k => xe (ix2 ⟨15 + y, by omega⟩ k)) (fun k => xe (ix2 ⟨16 + y, by omega⟩ k)) (fun k => xe (ix2 ⟨17 + y, by omega⟩ k))
        (fun k f => U (ix2 k f)) (fun k f => W (ix2 k f)) (fun f => B (ix2 0 f)) f := by
  canon_tiles z e
  all_goals
    change 0 + 1 * (y : ℕ) = _ at e0
    change 0 + 1 * (f : ℕ) = _ at e1
    have ey : y = z 0 := Fin.ext (by omega)
  case piece0 => refine chunk_hidden 10 (by omega) xe _ xs _ _ _ z exs y ey U W B ?_ ?_ ?_ ?_ f (by omega) <;> intros <;> pointwise <;> blk_ext
  case piece1 => refine chunk_hidden 9 (by omega) xe _ xs _ _ _ z exs y ey U W B ?_ ?_ ?_ ?_ f (by omega) <;> intros <;> pointwise <;> blk_ext
  case piece2 => refine chunk_hidden 8 (by omega) xe _ xs _ _ _ z exs y ey U W B ?_ ?_ ?_ ?_ f (by omega) <;> intros <;> pointwise <;> blk_ext
  case piece3 => refine chunk_hidden 7 (by omega) xe _ xs _ _ _ z exs y ey U W B ?_ ?_ ?_ ?_ f (by omega) <;> intros <;> pointwise <;> blk_ext
  case piece4 => refine chunk_hidden 6 (by omega) xe _ xs _ _ _ z exs y ey U W B ?_ ?_ ?_ ?_ f (by omega) <;> intros <;> pointwise <;> blk_ext
  case piece5 => refine chunk_hidden 5 (by omega) xe _ xs _ _ _ z exs y ey U W B ?_ ?_ ?_ ?_ f (by omega) <;> intros <;> pointwise <;> blk_ext
  case piece6 => refine chunk_hidden 4 (by omega) xe _ xs _ _ _ z exs y ey U W B ?_ ?_ ?_ ?_ f (by omega) <;> intros <;> pointwise <;> blk_ext
  case piece7 => refine chunk_hidden 3 (by omega) xe _ xs _ _ _ z exs y ey U W B ?_ ?_ ?_ ?_ f (by omega) <;> intros <;> pointwise <;> blk_ext
  case piece8 => refine chunk_hidden 2 (by omega) xe _ xs _ _ _ z exs y ey U W B ?_ ?_ ?_ ?_ f (by omega) <;> intros <;> pointwise <;> blk_ext
  case piece9 => refine chunk_hidden 1 (by omega) xe _ xs _ _ _ z exs y ey U W B ?_ ?_ ?_ ?_ f (by omega) <;> intros <;> pointwise <;> blk_ext
  case piece10 => refine chunk_hidden 0 (by omega) xe _ xs _ _ _ z exs y ey U W B ?_ ?_ ?_ ?_ f (by omega) <;> intros <;> pointwise <;> blk_ext

/-- The block's residual and down-projection at one row, its operands being blocks of one sequence `x` and of the weights. -/
theorem block_plain (x : Fin 2048 → Fin 1024 → EReal) (g : Fin 1024 → EReal) (wu : Fin 1024 → Fin 5632 → EReal) (cw : Fin 3 → Fin 2816 → EReal)
    (cb : Fin 2816 → EReal) (wd : Fin 2816 → Fin 1024 → EReal) (n : Fin 4)
    (B0 : FVec Ideal S1x16x1024 .f32) (B1 : FVec Ideal S1x512x1024 .f32) (B2 : FVec Ideal S1x16x1024 .f32) (B3 : FVec Ideal S1x1024 .f32)
    (B4 : FVec Ideal S1024x5632 .bf16) (B5 : FVec Ideal S3x2816 .f32) (B6 : FVec Ideal S1x2816 .f32) (B7 : FVec Ideal S2816x1024 .bf16)
    (hp : ∀ (a : 0 < (n : ℕ)) k, B0 (ix3 0 15 k) = x ⟨n * 512 - 1, by omega⟩ k)
    (hx : ∀ (r : Fin 512) k, B1 (ix3 0 r k) = x ⟨n * 512 + r, by omega⟩ k)
    (hq : ∀ (a : (n : ℕ) < 3) k, B2 (ix3 0 0 k) = x ⟨n * 512 + 512, by omega⟩ k)
    (hg : ∀ k, B3 (ix2 0 k) = g k) (hu : ∀ j k, B4 (ix2 j k) = wu j k) (hw : ∀ j k, B5 (ix2 j k) = cw j k) (hb : ∀ k, B6 (ix2 0 k) = cb k)
    (hd : ∀ j k, B7 (ix2 j k) = wd j k)
    (xe : FVec Ideal S544x1024 .bf16) (exe : ∀ p k, xe (ix2 p k) = Rows n B0 B1 B2 B3 p k) (h : Fin 2816 → EReal) (y : Fin 512)
    (hh : ∀ f, h f = Row.hidden (fun k => xe (ix2 ⟨15 + y, by omega⟩ k)) (fun k => xe (ix2 ⟨16 + y, by omega⟩ k))
      (fun k => xe (ix2 ⟨17 + y, by omega⟩ k)) (fun k f => B4 (ix2 k f)) (fun k f => B5 (ix2 k f)) (fun f => B6 (ix2 0 f)) f)
    (s : Fin 2048) (hs : (s : ℕ) = n * 512 + y) (d : Fin 1024) :
    B1 (ix3 0 y d) + Row.dot h (fun f c => B7 (ix2 f c)) d
      = Row.ffnPlain (x s) (Row.before (fun s => Row.norm (x s) g) s) (Row.norm (x s) g) (Row.after (fun s => Row.norm (x s) g) s) wu cw cb wd d := by
  obtain ⟨ra, rb, rc⟩ := rows_around x g n B0 B1 B2 B3 hp hx hq hg y s hs
  have hy : ∀ k, B1 (ix3 0 y k) = x s k := by
    intro k; rw [hx]; exact congrArg (x · k) (Fin.ext hs.symm)
  obtain rfl : h = _ := funext hh
  simp only [ exe, ra, rb, rc, hy, hu, hw, hb, hd]
  rfl

/-- The block's result at one row and channel, its operands being blocks of one sequence `x` and of the weights. -/
theorem block_ffn (x : Fin 2048 → Fin 1024 → EReal) (g : Fin 1024 → EReal) (wu : Fin 1024 → Fin 5632 → EReal) (cw : Fin 3 → Fin 2816 → EReal)
    (cb : Fin 2816 → EReal) (wd : Fin 2816 → Fin 1024 → EReal) (gf : Fin 1024 → EReal) (n : Fin 4)
    (B0 : FVec Ideal S1x16x1024 .f32) (B1 : FVec Ideal S1x512x1024 .f32) (B2 : FVec Ideal S1x16x1024 .f32) (B3 : FVec Ideal S1x1024 .f32)
    (B4 : FVec Ideal S1024x5632 .bf16) (B5 : FVec Ideal S3x2816 .f32) (B6 : FVec Ideal S1x2816 .f32) (B7 : FVec Ideal S2816x1024 .bf16)
    (B8 : FVec Ideal S1x1024 .f32)
    (hp : ∀ (a : 0 < (n : ℕ)) k, B0 (ix3 0 15 k) = x ⟨n * 512 - 1, by omega⟩ k)
    (hx : ∀ (r : Fin 512) k, B1 (ix3 0 r k) = x ⟨n * 512 + r, by omega⟩ k)
    (hq : ∀ (a : (n : ℕ) < 3) k, B2 (ix3 0 0 k) = x ⟨n * 512 + 512, by omega⟩ k)
    (hg : ∀ k, B3 (ix2 0 k) = g k) (hu : ∀ j k, B4 (ix2 j k) = wu j k) (hw : ∀ j k, B5 (ix2 j k) = cw j k) (hb : ∀ k, B6 (ix2 0 k) = cb k)
    (hd : ∀ j k, B7 (ix2 j k) = wd j k) (hf : ∀ k, B8 (ix2 0 k) = gf k)
    (xe : FVec Ideal S544x1024 .bf16) (exe : ∀ p k, xe (ix2 p k) = Rows n B0 B1 B2 B3 p k) (h : FVec Ideal S512x2816 .bf16) (y : Fin 512)
    (hh : ∀ f, h (ix2 y f) = Row.hidden (fun k => xe (ix2 ⟨15 + y, by omega⟩ k)) (fun k => xe (ix2 ⟨16 + y, by omega⟩ k))
      (fun k => xe (ix2 ⟨17 + y, by omega⟩ k)) (fun k f => B4 (ix2 k f)) (fun k f => B5 (ix2 k f)) (fun f => B6 (ix2 0 f)) f)
    (s : Fin 2048) (hs : (s : ℕ) = n * 512 + y) (d : Fin 1024) :
    k0_pay1 (F := Ideal) (k0_pay51 (k0_pay3 B1) h B7 B8) (ix3 0 y d)
      = Row.ffn (x s) (Row.before (fun s => Row.norm (x s) g) s) (Row.norm (x s) g) (Row.after (fun s => Row.norm (x s) g) s) wu cw cb wd gf d := by
  rw [out_at]
  simp only [block_plain x g wu cw cb wd n B0 B1 B2 B3 B4 B5 B6 B7 hp hx hq hg hu hw hb hd xe exe (fun f => h (ix2 y f)) y hh s hs, hf]
  rfl

end Cert.Kernel2Ideal.Ffn
-- ==== Proof.FfnStages.lean ====
module
public import proofs.«01_k».proof.Proof.Gen.Reference2Ideal.Run
public import proofs.«01_k».proof.Proof.Row
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

/-! # The feed-forward reference, stage by stage, for a batch of 16 or 32 sequences

Norm, up-projection, padded depthwise convolution, gated product, down-projection with residual, final norm: each stage
is a function of whole arrays and is read at one index. -/

namespace Cert.Ffn
open Cert.Reference2Ideal Cert.Reference2Ideal.Gen

abbrev SX (N : ℕ) : Shape := ⟨3, ![N, 2048, 1024]⟩
abbrev SR (N : ℕ) : Shape := ⟨3, ![N, 2048, 1]⟩
abbrev SM (N : ℕ) : Shape := ⟨2, ![N, 2048]⟩
abbrev SU (N : ℕ) : Shape := ⟨3, ![N, 2048, 5632]⟩
abbrev SH (N : ℕ) : Shape := ⟨3, ![N, 2048, 2816]⟩
abbrev SP (N : ℕ) : Shape := ⟨3, ![N, 2050, 2816]⟩

/-- The batch sizes and what the shapes of the stages' operations satisfy. -/
structure Batch (N : ℕ) : Prop where
  two : N = 16 ∨ N = 32
  sum : (SX N).ReducesTo [2] (SM N)
  column : (SM N).BroadcastsInDim (SR N) (![0, 1] : Fin 2 → Fin (SR N).rank)
  fillColumn : S_.BroadcastsInDim (SR N) (![] : Fin 0 → Fin (SR N).rank)
  spread : (SR N).BroadcastsInDim (SX N) (![0, 1, 2] : Fin 3 → Fin (SX N).rank)
  gain : S1x1x1024.BroadcastsInDim (SX N) (![0, 1, 2] : Fin 3 → Fin (SX N).rank)
  gateHalf : (SU N).Slices ![0, 0, 0] (SH N)
  valueHalf : (SU N).Slices ![0, 0, 2816] (SH N)
  pads : (SH N).Pads (![0, 1, 0] : Fin 3 → Nat) ![0, 1, 0] ![0, 0, 0] (SP N)
  tap0 : (SP N).Slices ![0, 0, 0] (SH N)
  channel : S1x1x2816.BroadcastsInDim (SH N) (![0, 1, 2] : Fin 3 → Fin (SH N).rank)
  tap1 : (SP N).Slices ![0, 1, 0] (SH N)
  tap2 : (SP N).Slices ![0, 2, 0] (SH N)
  fillChannel : S_.BroadcastsInDim (SH N) (![] : Fin 0 → Fin (SH N).rank)
  up : DotDims.WF (SX N) S1024x5632 (SU N) [2] [0] [0, 1] [1] [] []
  down : DotDims.WF (SH N) S2816x1024 (SX N) [2] [0] [0, 1] [1] [] []

variable {N : ℕ}

/-- The up-projection's contraction. -/
def Batch.upDims (F : Batch N) : DotDims (SX N) S1024x5632 (SU N) where
  lhsContracting := [2]
  rhsContracting := [0]
  lhsNonContracting := [0, 1]
  rhsNonContracting := [1]
  lhsBatch := []
  rhsBatch := []
  wf := F.up

/-- The down-projection's contraction. -/
def Batch.downDims (F : Batch N) : DotDims (SH N) S2816x1024 (SX N) where
  lhsContracting := [2]
  rhsContracting := [0]
  lhsNonContracting := [0, 1]
  rhsNonContracting := [1]
  lhsBatch := []
  rhsBatch := []
  wf := F.down

/-- The RMS norm of every row. -/
def stNorm (F : Batch N) (h : FVec Ideal (SX N) .f32) (g : FVec Ideal S1024 .f32) : FVec Ideal (SX N) .f32 :=
  mulf (mulf h (broadcastInDim (SX N) ![0, 1, 2] F.spread
      (Host.rsqrt (addf (Host.divf (broadcastInDim (SR N) ![0, 1] F.column
          (Host.reduceAdd (mulf h h) (constant S_ .f32 0x00000000#32) F.sum h_S_))
        (broadcastInDim (SR N) ![] F.fillColumn (constant S_ .f32 0x44800000#32)))
        (broadcastInDim (SR N) ![] F.fillColumn (constant S_ .f32 0x358637BD#32))))))
    (broadcastInDim (SX N) ![0, 1, 2] F.gain (broadcastInDim S1x1x1024 ![2] bcast_S1024_S1x1x1024_2 g))

/-- The up-projection of the normed rows. -/
def stUp (F : Batch N) (n : FVec Ideal (SX N) .f32) (w : FVec Ideal S1024x5632 .f32) : FVec Ideal (SU N) .f32 :=
  Host.dotGeneral F.upDims none n w

/-- The gate half with one zero row before and one after. -/
def stPad (F : Batch N) (u : FVec Ideal (SU N) .f32) : FVec Ideal (SP N) .f32 :=
  pad (SP N) ![0, 1, 0] ![0, 1, 0] ![0, 0, 0] (extractStridedSlice (SH N) ![0, 0, 0] u F.gateHalf)
    (sitofp .f32 (constantI S_ 32 0#32)) F.pads h_S_

/-- The three-tap depthwise convolution. -/
def stConv (F : Batch N) (p : FVec Ideal (SP N) .f32) (w : FVec Ideal S3x2816 .f32) (b : FVec Ideal S2816 .f32) : FVec Ideal (SH N) .f32 :=
  addf (addf (addf
    (mulf (extractStridedSlice (SH N) ![0, 0, 0] p F.tap0)
      (broadcastInDim (SH N) ![0, 1, 2] F.channel (broadcastInDim S1x1x2816 ![2] bcast_S2816_S1x1x2816_2
        (shapeCast _ (extractStridedSlice S1x2816 ![0, 0] w slices_S3x2816_S1x2816_0_0) shapeCasts_S1x2816_S2816))))
    (mulf (extractStridedSlice (SH N) ![0, 1, 0] p F.tap1)
      (broadcastInDim (SH N) ![0, 1, 2] F.channel (broadcastInDim S1x1x2816 ![2] bcast_S2816_S1x1x2816_2
        (shapeCast _ (extractStridedSlice S1x2816 ![1, 0] w slices_S3x2816_S1x2816_1_0) shapeCasts_S1x2816_S2816)))))
    (mulf (extractStridedSlice (SH N) ![0, 2, 0] p F.tap2)
      (broadcastInDim (SH N) ![0, 1, 2] F.channel (broadcastInDim S1x1x2816 ![2] bcast_S2816_S1x1x2816_2
        (shapeCast _ (extractStridedSlice S1x2816 ![2, 0] w slices_S3x2816_S1x2816_2_0) shapeCasts_S1x2816_S2816)))))
    (broadcastInDim (SH N) ![0, 1, 2] F.channel (broadcastInDim S1x1x2816 ![2] bcast_S2816_S1x1x2816_2 b))

/-- GELU of the gate times the value half. -/
def stHidden (F : Batch N) (g : FVec Ideal (SH N) .f32) (u : FVec Ideal (SU N) .f32) : FVec Ideal (SH N) .f32 :=
  mulf (mulf g (mulf (broadcastInDim (SH N) ![] F.fillChannel (constant S_ .f32 0x3F000000#32))
      (addf (broadcastInDim (SH N) ![] F.fillChannel (constant S_ .f32 0x3F800000#32))
        (Host.tanh (mulf (broadcastInDim (SH N) ![] F.fillChannel (constant S_ .f32 0x3F4C422A#32))
          (addf g (mulf (broadcastInDim (SH N) ![] F.fillChannel (constant S_ .f32 0x3D372713#32)) (mulf (mulf g g) g))))))))
    (extractStridedSlice (SH N) ![0, 0, 2816] u F.valueHalf)

/-- The down-projection and the residual. -/
def stDown (F : Batch N) (x : FVec Ideal (SX N) .f32) (h : FVec Ideal (SH N) .f32) (w : FVec Ideal S2816x1024 .f32) : FVec Ideal (SX N) .f32 :=
  addf x (Host.dotGeneral F.downDims none h w)

theorem sitofp_zero : (FloatOps.sitofp (F := Ideal) FTy.f32 (0#32) : EReal) = 0 := by
  show (((0#32 : BitVec 32).toInt : ℝ) : EReal) = 0
  simp

theorem stNorm_at (F : Batch N) (h : FVec Ideal (SX N) .f32) (g : FVec Ideal S1024 .f32) (i : Fin N) (s : Fin 2048) (d : Fin 1024) :
    stNorm F h g (ix3 i s d) = Row.norm (fun k => h (ix3 i s k)) (fun c => g (ix1 c)) d := by
  unfold Row.norm
  obtain rfl | rfl := F.two <;> pointwise [stNorm]

theorem stUp_at (F : Batch N) (n : FVec Ideal (SX N) .f32) (w : FVec Ideal S1024x5632 .f32) (i : Fin N) (s : Fin 2048) (f : Fin 5632) :
    stUp F n w (ix3 i s f) = Row.dot (fun k => n (ix3 i s k)) (fun k f => w (ix2 k f)) f := by
  unfold Row.dot
  obtain rfl | rfl := F.two <;> pointwise [stUp]

/-- The padded gate at one position: the up-projection of the row there, zero outside the sequence. -/
theorem stPad_at (F : Batch N) (n : FVec Ideal (SX N) .f32) (w : FVec Ideal S1024x5632 .f32) (i : Fin N) (p : Fin 2050) (f : Fin 2816) :
    stPad F (stUp F n w) (ix3 i p f) = if h : 1 ≤ (p : ℕ) ∧ (p : ℕ) - 1 < 2048
      then Row.dot (fun k => n (ix3 i ⟨p - 1, h.2⟩ k)) (fun k f => w (ix2 k f)) (⟨f, by omega⟩ : Fin 5632) else 0 := by
  obtain rfl | rfl := F.two <;> pointwise [stPad]
  all_goals exact dite_congr rfl (fun h => stUp_at F n w i _ _) (fun h => sitofp_zero)

theorem stPad_before (F : Batch N) (n : FVec Ideal (SX N) .f32) (w : FVec Ideal S1024x5632 .f32) (i : Fin N) (s : Fin 2048) (f : Fin 2816) :
    stPad F (stUp F n w) (ix3 i ⟨s, by omega⟩ f)
      = Row.dot (Row.before (fun s k => n (ix3 i s k)) s) (fun k f => w (ix2 k f)) (⟨f, by omega⟩ : Fin 5632) := by
  rw [stPad_at]
  unfold Row.before
  split <;> rename_i h
  · rw [dif_pos (show 0 < (s : ℕ) from h.1)]
  · rw [dif_neg (show ¬ 0 < (s : ℕ) from fun h0 => h ⟨h0, by show (s : ℕ) - 1 < 2048; omega⟩)]
    exact (Row.dot_zero _ _).symm

theorem stPad_here (F : Batch N) (n : FVec Ideal (SX N) .f32) (w : FVec Ideal S1024x5632 .f32) (i : Fin N) (s : Fin 2048) (f : Fin 2816) :
    stPad F (stUp F n w) (ix3 i ⟨1 + s, by omega⟩ f)
      = Row.dot (fun k => n (ix3 i s k)) (fun k f => w (ix2 k f)) (⟨f, by omega⟩ : Fin 5632) := by
  rw [stPad_at, dif_pos ⟨by show 1 ≤ 1 + (s : ℕ); omega, by show 1 + (s : ℕ) - 1 < 2048; omega⟩]
  simp only [Nat.add_sub_cancel_left]

theorem stPad_after (F : Batch N) (n : FVec Ideal (SX N) .f32) (w : FVec Ideal S1024x5632 .f32) (i : Fin N) (s : Fin 2048) (f : Fin 2816) :
    stPad F (stUp F n w) (ix3 i ⟨2 + s, by omega⟩ f)
      = Row.dot (Row.after (fun s k => n (ix3 i s k)) s) (fun k f => w (ix2 k f)) (⟨f, by omega⟩ : Fin 5632) := by
  have e : 2 + (s : ℕ) - 1 = s + 1 := by omega
  rw [stPad_at]
  unfold Row.after
  simp only [e]
  by_cases h : (s : ℕ) + 1 < 2048
  · rw [dif_pos ⟨by omega, h⟩, dif_pos h]
  · rw [dif_neg (fun h' => h h'.2), dif_neg h]
    exact (Row.dot_zero _ _).symm

theorem stConv_at (F : Batch N) (p : FVec Ideal (SP N) .f32) (w : FVec Ideal S3x2816 .f32) (b : FVec Ideal S2816 .f32) (i : Fin N) (s : Fin 2048) (f : Fin 2816) :
    stConv F p w b (ix3 i s f) = Row.conv (p (ix3 i ⟨s, by omega⟩ f)) (p (ix3 i ⟨1 + s, by omega⟩ f)) (p (ix3 i ⟨2 + s, by omega⟩ f))
      (fun k => w (ix2 k f)) (b (ix1 f)) := by
  unfold Row.conv
  obtain rfl | rfl := F.two <;> pointwise [stConv]

theorem stHidden_at (F : Batch N) (g : FVec Ideal (SH N) .f32) (u : FVec Ideal (SU N) .f32) (i : Fin N) (s : Fin 2048) (f : Fin 2816) :
    stHidden F g u (ix3 i s f) = Row.gelu (g (ix3 i s f)) * u (ix3 i s ⟨2816 + f, by omega⟩) := by
  unfold Row.gelu
  obtain rfl | rfl := F.two <;> pointwise [stHidden]

theorem stDown_at (F : Batch N) (x : FVec Ideal (SX N) .f32) (h : FVec Ideal (SH N) .f32) (w : FVec Ideal S2816x1024 .f32)
    (i : Fin N) (s : Fin 2048) (d : Fin 1024) :
    stDown F x h w (ix3 i s d) = x (ix3 i s d) + Row.dot (fun f => h (ix3 i s f)) (fun f c => w (ix2 f c)) d := by
  unfold Row.dot
  obtain rfl | rfl := F.two <;> pointwise [stDown]

/-- The whole network without the final norm. -/
def stPlain (F : Batch N) (x : FVec Ideal (SX N) .f32) (g : FVec Ideal S1024 .f32) (w : FVec Ideal S1024x5632 .f32) (cw : FVec Ideal S3x2816 .f32)
    (cb : FVec Ideal S2816 .f32) (wd : FVec Ideal S2816x1024 .f32) : FVec Ideal (SX N) .f32 :=
  stDown F x (stHidden F (stConv F (stPad F (stUp F (stNorm F x g) w)) cw cb) (stUp F (stNorm F x g) w)) wd

theorem stPlain_at (F : Batch N) (x : FVec Ideal (SX N) .f32) (g : FVec Ideal S1024 .f32) (w : FVec Ideal S1024x5632 .f32) (cw : FVec Ideal S3x2816 .f32)
    (cb : FVec Ideal S2816 .f32) (wd : FVec Ideal S2816x1024 .f32) (i : Fin N) (s : Fin 2048) (d : Fin 1024) :
    stPlain F x g w cw cb wd (ix3 i s d) =
      (let n : Fin 2048 → Fin 1024 → EReal := fun s => Row.norm (fun k => x (ix3 i s k)) (fun e => g (ix1 e))
      Row.ffnPlain (fun k => x (ix3 i s k)) (Row.before n s) (n s) (Row.after n s) (fun k f => w (ix2 k f)) (fun k f => cw (ix2 k f))
        (fun f => cb (ix1 f)) (fun f e => wd (ix2 f e)) d) := by
  unfold stPlain
  simp only [stDown_at, stHidden_at, stConv_at, stPad_before, stPad_here, stPad_after, stUp_at, stNorm_at]
  rfl

/-- The whole network. -/
def stFfn (F : Batch N) (x : FVec Ideal (SX N) .f32) (g : FVec Ideal S1024 .f32) (w : FVec Ideal S1024x5632 .f32) (cw : FVec Ideal S3x2816 .f32)
    (cb : FVec Ideal S2816 .f32) (wd : FVec Ideal S2816x1024 .f32) (gf : FVec Ideal S1024 .f32) : FVec Ideal (SX N) .f32 :=
  stNorm F (stPlain F x g w cw cb wd) gf

theorem stFfn_at (F : Batch N) (x : FVec Ideal (SX N) .f32) (g : FVec Ideal S1024 .f32) (w : FVec Ideal S1024x5632 .f32) (cw : FVec Ideal S3x2816 .f32)
    (cb : FVec Ideal S2816 .f32) (wd : FVec Ideal S2816x1024 .f32) (gf : FVec Ideal S1024 .f32) (i : Fin N) (s : Fin 2048) (d : Fin 1024) :
    stFfn F x g w cw cb wd gf (ix3 i s d) =
      (let n : Fin 2048 → Fin 1024 → EReal := fun s => Row.norm (fun k => x (ix3 i s k)) (fun e => g (ix1 e))
      Row.ffn (fun k => x (ix3 i s k)) (Row.before n s) (n s) (Row.after n s) (fun k f => w (ix2 k f)) (fun k f => cw (ix2 k f))
        (fun f => cb (ix1 f)) (fun f e => wd (ix2 f e)) (fun e => gf (ix1 e)) d) := by
  unfold stFfn
  rw [stNorm_at]
  simp only [stPlain_at]
  rfl

end Cert.Ffn
-- ==== Proof.FfnRef.lean ====
module
public import proofs.«01_k».proof.Proof.Gen.Reference2Ideal.Run
public import proofs.«01_k».proof.Proof.FfnStages
@[expose] public section
set_option maxRecDepth 16384
noncomputable section
open Idealize.ShloMosaic Idealize.ShloMosaic.TcCoe Idealize.SL.Sem

/-! # The feed-forward reference for the prompt batch -/

namespace Cert.Reference2Ideal.Ffn
open Cert.Reference2Ideal Cert.Reference2Ideal.Gen Cert.Reference2Ideal.Value
open Cert.Ffn (Batch stFfn stFfn_at)

/-- The printed shape facts at this batch size. -/
theorem batch : Batch 16 where
  two := .inl rfl
  sum := reducesTo_S16x2048x1024_S16x2048_d2
  column := bcast_S16x2048_S16x2048x1_0_1
  fillColumn := bcast_S_S16x2048x1
  spread := bcast_S16x2048x1_S16x2048x1024_0_1_2
  gain := bcast_S1x1x1024_S16x2048x1024_0_1_2
  gateHalf := slices_S16x2048x5632_S16x2048x2816_0_0_0
  valueHalf := slices_S16x2048x5632_S16x2048x2816_0_0_2816
  pads := pads_S16x2048x2816_S16x2050x2816_000_110_000
  tap0 := slices_S16x2050x2816_S16x2048x2816_0_0_0
  tap1 := slices_S16x2050x2816_S16x2048x2816_0_1_0
  tap2 := slices_S16x2050x2816_S16x2048x2816_0_2_0
  channel := bcast_S1x1x2816_S16x2048x2816_0_1_2
  fillChannel := bcast_S_S16x2048x2816
  up := dot_S16x2048x1024_S1024x5632_S16x2048x5632_2_0_01_1_n_n_wf
  down := dot_S16x2048x2816_S2816x1024_S16x2048x1024_2_0_01_1_n_n_wf

variable (m : (ℓ : Loc nD τ sig) → Buf (Elt Ideal) ℓ)

theorem res_eq (c : Dev nD) : res_main_v68 (F := Ideal) m c = stFfn batch (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  unfold res_main_v68
  rfl

/-- The reference's result at one index is the row formula of that token. -/
theorem res_at (c : Dev nD) (i : Fin 16) (s : Fin 2048) (d : Fin 1024) :
    res_main_v68 (F := Ideal) m c (ix3 i s d) =
      (let n : Fin 2048 → Fin 1024 → EReal := fun s => Row.norm (fun k => m ((c.tc : Thread nD τ).loc main_arg0) (ix3 i s k)) (fun e => m ((c.tc : Thread nD τ).loc main_arg1) (ix1 e))
      Row.ffn (fun k => m ((c.tc : Thread nD τ).loc main_arg0) (ix3 i s k)) (Row.before n s) (n s) (Row.after n s)
        (fun k f => m ((c.tc : Thread nD τ).loc main_arg2) (ix2 k f)) (fun k f => m ((c.tc : Thread nD τ).loc main_arg3) (ix2 k f))
        (fun f => m ((c.tc : Thread nD τ).loc main_arg4) (ix1 f)) (fun f e => m ((c.tc : Thread nD τ).loc main_arg5) (ix2 f e)) (fun e => m ((c.tc : Thread nD τ).loc main_arg6) (ix1 e)) d) := by
  rw [res_eq]
  exact stFfn_at batch _ _ _ _ _ _ _ i s d

end Cert.Reference2Ideal.Ffn
-- ==== Proof.WideKernel.lean ====
module
public import proofs.«01_k».proof.Proof.Gen.Kernel4Ideal.Value
public import proofs.«01_k».proof.Proof.AttnBlock
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

/-! # The attention kernel after the RG-LRU mixer

The mixer's output has width 1280 and its map no bias; the heads and the output map are the other attention call's. -/

namespace Cert.Kernel4Ideal.Wide
open Cert.Kernel4Ideal Cert.Kernel4Ideal.Gen
open Cert.KernelIdeal.Attn (HeadsAt HeadsAt_ix heads_canon out_at)

section Blocks
variable (y : FVec Ideal S1x1024x1280 .bf16) (wm : FVec Ideal S1280x1024 .bf16)
  (x : FVec Ideal S1x1024x1024 .f32) (g : FVec Ideal S1x1024 .f32) (wq : FVec Ideal S1024x1024 .bf16)

/-- The residual after the mixer's output map. -/
theorem mix_at (r c : Fin 1024) : k0_pay3 (F := Ideal) y wm x (ix2 r c)
    = Row.mixPlain (fun k => x (ix3 0 r k)) (fun k => y (ix3 0 r k)) (fun k c => wm (ix2 k c)) c := by
  unfold Row.mixPlain Row.dot
  pointwise [k0_pay3]

/-- The queries of all heads. -/
theorem query_at (r c : Fin 1024) : k0_pay4 (F := Ideal) y wm x g wq (ix2 r c)
    = Row.dot (Row.norm (fun c => k0_pay3 (F := Ideal) y wm x (ix2 r c)) (fun c => g (ix2 0 c))) (fun k c => wq (ix2 k c)) c := by
  unfold Row.norm Row.dot
  pointwise [k0_pay4]

end Blocks

variable (m : (ℓ : Loc nD τ sig) → Buf (Elt Ideal) ℓ)

theorem idx : ∀ t : Fin cfg0.N, win0_0.index t = ![t.val / 2, t.val % 2, 0] ∧ win0_1.index t = ![t.val / 2, t.val % 2, 0]
    ∧ win0_5.index t = ![t.val / 2, 0, 0] ∧ win0_6.index t = ![t.val / 2, 0, 0] ∧ win0_9.index t = ![t.val / 2, t.val % 2, 0]
    ∧ win0_2.index t = ![0, 0] ∧ win0_4.index t = ![0, 0] ∧ win0_7.index t = ![0, 0] ∧ win0_8.index t = ![0, 0] :=
  (by decide +kernel : ∀ t : Fin grid0.N, _)

/-- The output array: each token's row formula of the entry arrays. -/
def Out (c : Dev nD) : FVec Ideal S16x2048x1024 .f32 := fun i => Row.attend
  (Row.mixPlain (fun k => m ((c.tc : Thread nD τ).loc main_arg0) (ix3 (i 0) (i 1) k)) (fun k => m ((c.tc : Thread nD τ).loc main_arg1) (ix3 (i 0) (i 1) k))
    (fun k e => m ((c.tc : Thread nD τ).loc main_arg2) (ix2 k e)))
  (fun e => m ((c.tc : Thread nD τ).loc main_arg3) (ix1 e))
  (fun j e => m ((c.tc : Thread nD τ).loc main_arg4) (ix3 (i 0) j e)) (fun j e => m ((c.tc : Thread nD τ).loc main_arg5) (ix3 (i 0) j e))
  (fun k e => m ((c.tc : Thread nD τ).loc main_arg6) (ix2 k e)) (fun k e => m ((c.tc : Thread nD τ).loc main_arg7) (ix2 k e)) (i 2)

set_option maxHeartbeats 1000000 in
theorem final (c : Dev nD) : (dats m 0 c).arrAt 9 (cfgs 0).N = Out m c := by
  refine (dats m 0 c).arrAt_eq_of_covers 9 _ (by decide +kernel) fun t _ y => ?_
  blk_simp
  rw [after0_9]
  unfold outsAt0
  frame_out
  obtain ⟨i0, i1, i5, i6, i9, i2, i4, i7, i8⟩ := idx t
  obtain ⟨Bx, hBx⟩ : ∃ B : FVec Ideal S1x1024x1024 .f32, iblk m c 0 t = B := ⟨_, rfl⟩
  obtain ⟨By, hBy⟩ : ∃ B : FVec Ideal S1x1024x1280 .bf16, iblk m c 1 t = B := ⟨_, rfl⟩
  obtain ⟨Bw, hBw⟩ : ∃ B : FVec Ideal S1280x1024 .bf16, iblk m c 2 t = B := ⟨_, rfl⟩
  obtain ⟨Bg, hBg⟩ : ∃ B : FVec Ideal S1x1024 .f32, iblk m c 4 t = B := ⟨_, rfl⟩
  obtain ⟨BK, hBK⟩ : ∃ B : FVec Ideal S1x256x1024 .bf16, iblk m c 5 t = B := ⟨_, rfl⟩
  obtain ⟨BV, hBV⟩ : ∃ B : FVec Ideal S1x256x1024 .bf16, iblk m c 6 t = B := ⟨_, rfl⟩
  obtain ⟨Bq, hBq⟩ : ∃ B : FVec Ideal S1024x1024 .bf16, iblk m c 7 t = B := ⟨_, rfl⟩
  obtain ⟨Bo, hBo⟩ : ∃ B : FVec Ideal S1024x1024 .bf16, iblk m c 8 t = B := ⟨_, rfl⟩
  rw [hBx, hBy, hBw, hBg, hBK, hBV, hBq, hBo]
  rw [View.readCov_eq_canon']
  idx_vars y
  obtain rfl : y0 = 0 := Fin.ext (by omega)
  refine (out_at _ _ _ _ _).trans ?_
  refine Eq.trans (b := k0_pay3 (F := Ideal) By Bw Bx (ix2 y1 y2)
    + ∑ k, HeadsAt (k0_pay4 (F := Ideal) By Bw Bx Bg Bq) BK BV (ix2 y1 k) * Bo (ix2 k y2)) ?_ ?_
  · refine congrArg (_ + ·) (Finset.sum_congr rfl fun k _ => congrArg (· * _) ?_)
    exact heads_canon (k0_pay4 (F := Ideal) By Bw Bx Bg Bq) BK BV y1 k
  · unfold Out Row.attend
    simp only [HeadsAt_ix, query_at, mix_at]
    obtain ⟨J, hJ⟩ : ∃ J : S16x2048x1024.Idx, ((View.whole main_v6).slice (win0_9.rect t)).emb (ix3 0 y1 y2) = J := ⟨_, rfl⟩
    have j0 : (J 0 : ℕ) = t.val / 2 := by rw [← hJ]; blk_simp [i9]; simp
    have j1 : (J 1 : ℕ) = t.val % 2 * 1024 + y1 := by rw [← hJ]; blk_simp [i9]
    have j2 : J 2 = y2 := by rw [← hJ]; refine Fin.ext ?_; blk_simp [i9]
    rw [hJ, j2]
    have hx : ∀ k, Bx (ix3 0 y1 k) = m ((c.tc : Thread nD τ).loc main_arg0) (ix3 (J 0) (J 1) k) := by
      intro k; rw [← hBx]; blk_point [iblk, V, i0]
    have hy : ∀ k, By (ix3 0 y1 k) = m ((c.tc : Thread nD τ).loc main_arg1) (ix3 (J 0) (J 1) k) := by
      intro k; rw [← hBy]; blk_point [iblk, V, i1]
    have hK : ∀ j k, BK (ix3 0 j k) = m ((c.tc : Thread nD τ).loc main_arg4) (ix3 (J 0) j k) := by
      intro j k; rw [← hBK]; blk_point [iblk, V, i5]
    have hV : ∀ j k, BV (ix3 0 j k) = m ((c.tc : Thread nD τ).loc main_arg5) (ix3 (J 0) j k) := by
      intro j k; rw [← hBV]; blk_point [iblk, V, i6]
    have hw : ∀ j k, Bw (ix2 j k) = m ((c.tc : Thread nD τ).loc main_arg2) (ix2 j k) := by
      intro j k; rw [← hBw]; blk_simp [iblk, i2]; entry_read; pointwise; blk_ext [i2]
    have hq : ∀ j k, Bq (ix2 j k) = m ((c.tc : Thread nD τ).loc main_arg6) (ix2 j k) := by
      intro j k; rw [← hBq]; blk_simp [iblk, i7]; entry_read; pointwise; blk_ext [i7]
    have ho : ∀ j k, Bo (ix2 j k) = m ((c.tc : Thread nD τ).loc main_arg7) (ix2 j k) := by
      intro j k; rw [← hBo]; blk_simp [iblk, i8]; entry_read; pointwise; blk_ext [i8]
    have hg : ∀ k, Bg (ix2 0 k) = m ((c.tc : Thread nD τ).loc main_arg3) (ix1 k) := by
      intro k; rw [← hBg]; blk_simp [iblk, i4]; entry_read; pointwise; blk_ext [i4]
    simp only [hx, hy, hK, hV, hw, hq, ho, hg]
    rfl

end Cert.Kernel4Ideal.Wide
-- ==== Proof.WideRef.lean ====
module
public import proofs.«01_k».proof.Proof.Gen.Reference4Ideal.Run
public import proofs.«01_k».proof.Proof.AttnRef
public import Idealize.ShloMosaic.Lib.Pipeline.ValueKit
public import Idealize.ShloMosaic.Lib.Pointwise
public import Idealize.ShloMosaic.Lib.KernelVsHost
@[expose] public section
set_option maxRecDepth 16384
noncomputable section
open Idealize.ShloMosaic Idealize.ShloMosaic.TcCoe Idealize.SL.Sem

/-! # The attention reference after the RG-LRU mixer

Only the output map of the mixer differs; the rest is the other attention reference's. -/

namespace Cert.Reference4Ideal.Wide
open Cert.Reference4Ideal Cert.Reference4Ideal.Gen Cert.Reference4Ideal.Value

/-- The residual after the mixer's output map. -/
def stMix (x : FVec Ideal S16x2048x1024 .f32) (y : FVec Ideal S16x2048x1280 .bf16) (w : FVec Ideal S1280x1024 .f32) :
    FVec Ideal S16x2048x1024 .f32 :=
  addf x (Host.dotGeneral dot_S16x2048x1280_S1280x1024_S16x2048x1024_2_0_01_1_n_n none (extf .f32 y bitsLt_bf16_f32) w)

theorem stMix_at (x : FVec Ideal S16x2048x1024 .f32) (y : FVec Ideal S16x2048x1280 .bf16) (w : FVec Ideal S1280x1024 .f32)
    (i : Fin 16) (s : Fin 2048) (d : Fin 1024) :
    stMix x y w (ix3 i s d) = Row.mixPlain (fun k => x (ix3 i s k)) (fun k => y (ix3 i s k)) (fun k c => w (ix2 k c)) d := by
  unfold Row.mixPlain Row.dot
  pointwise [stMix]

variable (m : (ℓ : Loc nD τ sig) → Buf (Elt Ideal) ℓ)

theorem res_eq (c : Dev nD) : res_main_v40 (F := Ideal) m c =
    ReferenceIdeal.Attn.stAttend (stMix (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_main_v40
  rfl

/-- The reference's result at one index is the row formula of that token. -/
theorem res_at (c : Dev nD) (i : Fin 16) (s : Fin 2048) (d : Fin 1024) :
    res_main_v40 (F := Ideal) m c (ix3 i s d) = Row.attend
      (Row.mixPlain (fun k => m ((c.tc : Thread nD τ).loc main_arg0) (ix3 i s k)) (fun k => m ((c.tc : Thread nD τ).loc main_arg1) (ix3 i s k))
        (fun k e => m ((c.tc : Thread nD τ).loc main_arg2) (ix2 k e)))
      (fun e => m ((c.tc : Thread nD τ).loc main_arg3) (ix1 e))
      (fun j e => m ((c.tc : Thread nD τ).loc main_arg4) (ix3 i j e)) (fun j e => m ((c.tc : Thread nD τ).loc main_arg5) (ix3 i j e))
      (fun k e => m ((c.tc : Thread nD τ).loc main_arg6) (ix2 k e)) (fun k e => m ((c.tc : Thread nD τ).loc main_arg7) (ix2 k e)) d := by
  rw [res_eq]
  refine (ReferenceIdeal.Attn.stAttend_at _ _ _ _ _ _ i s d).trans ?_
  simp only [stMix_at]

end Cert.Reference4Ideal.Wide
-- ==== Proof.SampleKernel.lean ====
module
public import proofs.«01_k».proof.Proof.Gen.Kernel5Ideal.Value
public import proofs.«01_k».proof.Proof.FfnTile
@[expose] public section
set_option maxRecDepth 16384
noncomputable section
open Idealize.ShloMosaic Idealize.ShloMosaic.TcCoe Idealize.SL.Sem
open Idealize.ShloMosaic.Pipeline (Dat)

/-! # The feed-forward kernel's output array for the sample batch

The scratches and the block's formula are those of the prompt batch; only the grid and the arrays are larger. -/

namespace Cert.Kernel5Ideal.Sample
open Cert.Kernel5Ideal Cert.Kernel5Ideal.Gen
open Cert.Kernel2Ideal.Ffn (Rows rows_canon hidden_canon block_ffn positive_mask select_if)

theorem halo_before (i : grid0.Coords) (g : FVec Ideal S1x1024 .f32) (x : FVec Ideal S1x16x1024 .f32) (r : Fin 16) (k : Fin 1024) :
    k0_pay4 (F := Ideal) i g x (ix2 r k)
      = if 0 < (i 1 : ℕ) then Row.norm (fun c => x (ix3 0 r c)) (fun c => g (ix2 0 c)) k else 0 := by
  unfold Row.norm
  pointwise [k0_pay4, k0_pay2]
  rw [positive_mask ⟨(i 1).val, (i 1).isLt⟩]
  exact select_if _ _ _

variable (m : (ℓ : Loc nD τ sig) → Buf (Elt Ideal) ℓ)

theorem idx : ∀ t : Fin cfg0.N, win0_0.index t = ![t.val / 4, t.val % 4 * 32 - 1, 0] ∧ win0_1.index t = ![t.val / 4, t.val % 4, 0]
    ∧ win0_2.index t = ![t.val / 4, min ((t.val % 4 + 1) * 32) 127, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val / 4, t.val % 4, 0] ∧ ((grid0.coords t 1 : Fin _) : ℕ) = t.val % 4 :=
  (by decide +kernel : ∀ t : Fin grid0.N, _)

/-- The normed rows of one sequence of the entry array. -/
def normed (c : Dev nD) (b : Fin 32) (s : Fin 2048) : Fin 1024 → EReal :=
  Row.norm (fun k => m ((c.tc : Thread nD τ).loc main_arg0) (ix3 b s k)) (fun e => m ((c.tc : Thread nD τ).loc main_arg1) (ix1 e))

/-- The output array: each token's row formula of the entry arrays. -/
def Out (c : Dev nD) : FVec Ideal S32x2048x1024 .f32 := fun i =>
  Row.ffn (fun k => m ((c.tc : Thread nD τ).loc main_arg0) (ix3 (i 0) (i 1) k))
    (Row.before (normed m c (i 0)) (i 1)) (normed m c (i 0) (i 1)) (Row.after (normed m c (i 0)) (i 1))
    (fun k f => m ((c.tc : Thread nD τ).loc main_arg2) (ix2 k f)) (fun k f => m ((c.tc : Thread nD τ).loc main_arg3) (ix2 k f))
    (fun f => m ((c.tc : Thread nD τ).loc main_arg4) (ix1 f)) (fun f e => m ((c.tc : Thread nD τ).loc main_arg5) (ix2 f e))
    (fun e => m ((c.tc : Thread nD τ).loc main_arg6) (ix1 e)) (i 2)

set_option maxHeartbeats 2000000 in
theorem final (c : Dev nD) : (dats m 0 c).arrAt 9 (cfgs 0).N = Out m c := by
  refine (dats m 0 c).arrAt_eq_of_covers 9 _ (by decide +kernel) fun t _ y => ?_
  blk_simp
  rw [after0_9]
  unfold outsAt0
  frame_out
  obtain ⟨i0, i1, i2, i3, i4, i5, i6, i7, i8, i9, it⟩ := idx t
  obtain ⟨B0, hB0⟩ : ∃ B : FVec Ideal S1x16x1024 .f32, iblk m c 0 t = B := ⟨_, rfl⟩
  obtain ⟨B1, hB1⟩ : ∃ B : FVec Ideal S1x512x1024 .f32, iblk m c 1 t = B := ⟨_, rfl⟩
  obtain ⟨B2, hB2⟩ : ∃ B : FVec Ideal S1x16x1024 .f32, iblk m c 2 t = B := ⟨_, rfl⟩
  obtain ⟨B3, hB3⟩ : ∃ B : FVec Ideal S1x1024 .f32, iblk m c 3 t = B := ⟨_, rfl⟩
  obtain ⟨B4, hB4⟩ : ∃ B : FVec Ideal S1024x5632 .bf16, iblk m c 4 t = B := ⟨_, rfl⟩
  obtain ⟨B5, hB5⟩ : ∃ B : FVec Ideal S3x2816 .f32, iblk m c 5 t = B := ⟨_, rfl⟩
  obtain ⟨B6, hB6⟩ : ∃ B : FVec Ideal S1x2816 .f32, iblk m c 6 t = B := ⟨_, rfl⟩
  obtain ⟨B7, hB7⟩ : ∃ B : FVec Ideal S2816x1024 .bf16, iblk m c 7 t = B := ⟨_, rfl⟩
  obtain ⟨B8, hB8⟩ : ∃ B : FVec Ideal S1x1024 .f32, iblk m c 8 t = B := ⟨_, rfl⟩
  rw [hB0, hB1, hB2, hB3, hB4, hB5, hB6, hB7, hB8]
  obtain ⟨n, hn⟩ : ∃ n : Fin 4, (grid0.coords t 1 : ℕ) = (n : ℕ) := ⟨⟨t.val % 4, by omega⟩, it⟩
  have hn' : (n : ℕ) = t.val % 4 := hn.symm.trans it
  obtain ⟨xe, hxe⟩ : ∃ xe : FVec Ideal S544x1024 .bf16, (View.whole cc0_scratch0).readCov (Val := Elt Ideal)
                    [⟨Rect.unit ![528, 0] ![16, 1024] inb_S544x1024_S16x1024_528_0,
                        k0_pay7 (F := Ideal) (BitVec.ofNat 32 ((grid0.coords t 1) : ℕ)) (k0_pay2 B3) B2⟩,
                      ⟨Rect.unit ![16, 0] ![512, 1024] inb_S544x1024_S512x1024_16_0, k0_pay6 (F := Ideal) (k0_pay5 B3 B1)⟩,
                      ⟨Rect.unit ![0, 0] ![16, 1024] inb_S544x1024_S16x1024_0_0, k0_pay4 (F := Ideal) (grid0.coords t) B3 B0⟩]
                    (Rect.unit (s := S544x1024) ![0, 0] ![544, 1024] inb_S544x1024_S544x1024_0_0).toLoadRect = xe := ⟨_, rfl⟩
  obtain ⟨xs, hxs⟩ : ∃ xs : FVec Ideal S512x1024 .bf16, (View.whole cc0_scratch0).readCov (Val := Elt Ideal)
                    [⟨Rect.unit ![528, 0] ![16, 1024] inb_S544x1024_S16x1024_528_0,
                        k0_pay7 (F := Ideal) (BitVec.ofNat 32 ((grid0.coords t 1) : ℕ)) (k0_pay2 B3) B2⟩,
                      ⟨Rect.unit ![16, 0] ![512, 1024] inb_S544x1024_S512x1024_16_0, k0_pay6 (F := Ideal) (k0_pay5 B3 B1)⟩,
                      ⟨Rect.unit ![0, 0] ![16, 1024] inb_S544x1024_S16x1024_0_0, k0_pay4 (F := Ideal) (grid0.coords t) B3 B0⟩]
                    (Rect.unit (s := S544x1024) ![16, 0] ![512, 1024] inb_S544x1024_S512x1024_16_0).toLoadRect = xs := ⟨_, rfl⟩
  rw [hxe, hxs]
  have exs : ∀ (r : Fin 512) k, xs (ix2 r k) = xe (ix2 ⟨16 + r, by omega⟩ k) := by
    intro r k
    rw [← hxs, ← hxe, View.readCov_eq_canon', View.readCov_eq_canon']
    show View.canon _ _ = View.canon _ _
    refine congrArg (View.canon _) (funext fun a => Fin.ext ?_)
    fin_cases a
    · show 16 + 1 * (r : ℕ) = 0 + 1 * (16 + r); omega
    · rfl
  have exe : ∀ (p : Fin 544) k, xe (ix2 p k) = Rows n B0 B1 B2 B3 p k := by
    intro p k
    rw [← hxe, View.readCov_eq_canon', hn]
    exact rows_canon n B0 B1 B2 B3 _ (fun r k => (halo_before (grid0.coords t) B3 B0 r k).trans (by rw [hn])) p k
  clear hxe hxs
  rw [View.readCov_eq_canon']
  idx_vars y
  obtain rfl : y0 = 0 := Fin.ext (by omega)
  obtain ⟨J, hJ⟩ : ∃ J : S32x2048x1024.Idx, ((View.whole main_v5).slice (win0_9.rect t)).emb (ix3 0 y1 y2) = J := ⟨_, rfl⟩
  have j0 : (J 0 : ℕ) = t.val / 4 := by rw [← hJ]; blk_simp [i9]; simp
  have j1 : (J 1 : ℕ) = t.val % 4 * 512 + y1 := by rw [← hJ]; blk_simp [i9]
  have j2 : J 2 = y2 := by rw [← hJ]; refine Fin.ext ?_; blk_simp [i9]
  rw [hJ]
  unfold Out
  rw [j2]
  have hg : ∀ k, B3 (ix2 0 k) = m ((c.tc : Thread nD τ).loc main_arg1) (ix1 k) := by
    intro k; rw [← hB3]; blk_simp [iblk, i3]; entry_read; pointwise; blk_ext [i3]
  have hx : ∀ (r : Fin 512) k, B1 (ix3 0 r k) = m ((c.tc : Thread nD τ).loc main_arg0) (ix3 (J 0) ⟨n * 512 + r, by omega⟩ k) := by
    intro r k; rw [← hB1]; blk_point [iblk, V, i1]
  have hp : ∀ (a : 0 < (n : ℕ)) k, B0 (ix3 0 15 k) = m ((c.tc : Thread nD τ).loc main_arg0) (ix3 (J 0) ⟨n * 512 - 1, by omega⟩ k) := by
    intro a k; rw [← hB0]; blk_point [iblk, V, i0]
  have hq : ∀ (a : (n : ℕ) < 3) k, B2 (ix3 0 0 k) = m ((c.tc : Thread nD τ).loc main_arg0) (ix3 (J 0) ⟨n * 512 + 512, by omega⟩ k) := by
    intro a k; rw [← hB2]; blk_point [iblk, V, i2]
  have hu : ∀ j k, B4 (ix2 j k) = m ((c.tc : Thread nD τ).loc main_arg2) (ix2 j k) := by
    intro j k; rw [← hB4]; blk_simp [iblk, i4]; entry_read; pointwise; blk_ext [i4]
  have hw : ∀ j k, B5 (ix2 j k) = m ((c.tc : Thread nD τ).loc main_arg3) (ix2 j k) := by
    intro j k; rw [← hB5]; blk_point [iblk, V, i5]
  have hb : ∀ k, B6 (ix2 0 k) = m ((c.tc : Thread nD τ).loc main_arg4) (ix1 k) := by
    intro k; rw [← hB6]; blk_simp [iblk, i6]; entry_read; pointwise; blk_ext [i6]
  have hd : ∀ j k, B7 (ix2 j k) = m ((c.tc : Thread nD τ).loc main_arg5) (ix2 j k) := by
    intro j k; rw [← hB7]; blk_simp [iblk, i7]; entry_read; pointwise; blk_ext [i7]
  have hf : ∀ k, B8 (ix2 0 k) = m ((c.tc : Thread nD τ).loc main_arg6) (ix1 k) := by
    intro k; rw [← hB8]; blk_simp [iblk, i8]; entry_read; pointwise; blk_ext [i8]
  exact block_ffn (fun s k => m ((c.tc : Thread nD τ).loc main_arg0) (ix3 (J 0) s k)) (fun k => m ((c.tc : Thread nD τ).loc main_arg1) (ix1 k))
    _ _ _ _ _ n B0 B1 B2 B3 B4 B5 B6 B7 B8 hp hx hq hg hu hw hb hd hf xe exe _ y1 (fun f => hidden_canon xe xs B4 B5 B6 exs y1 f) (J 1) (by omega) y2

end Cert.Kernel5Ideal.Sample
-- ==== Proof.SampleRef.lean ====
module
public import proofs.«01_k».proof.Proof.Gen.Reference5Ideal.Run
public import proofs.«01_k».proof.Proof.FfnStages
@[expose] public section
set_option maxRecDepth 16384
noncomputable section
open Idealize.ShloMosaic Idealize.ShloMosaic.TcCoe Idealize.SL.Sem

/-! # The feed-forward reference for the sample batch -/

namespace Cert.Reference5Ideal.Ffn
open Cert.Reference5Ideal Cert.Reference5Ideal.Gen Cert.Reference5Ideal.Value
open Cert.Ffn (Batch stFfn stFfn_at)

/-- The printed shape facts at this batch size. -/
theorem batch : Batch 32 where
  two := .inr rfl
  sum := reducesTo_S32x2048x1024_S32x2048_d2
  column := bcast_S32x2048_S32x2048x1_0_1
  fillColumn := bcast_S_S32x2048x1
  spread := bcast_S32x2048x1_S32x2048x1024_0_1_2
  gain := bcast_S1x1x1024_S32x2048x1024_0_1_2
  gateHalf := slices_S32x2048x5632_S32x2048x2816_0_0_0
  valueHalf := slices_S32x2048x5632_S32x2048x2816_0_0_2816
  pads := pads_S32x2048x2816_S32x2050x2816_000_110_000
  tap0 := slices_S32x2050x2816_S32x2048x2816_0_0_0
  tap1 := slices_S32x2050x2816_S32x2048x2816_0_1_0
  tap2 := slices_S32x2050x2816_S32x2048x2816_0_2_0
  channel := bcast_S1x1x2816_S32x2048x2816_0_1_2
  fillChannel := bcast_S_S32x2048x2816
  up := dot_S32x2048x1024_S1024x5632_S32x2048x5632_2_0_01_1_n_n_wf
  down := dot_S32x2048x2816_S2816x1024_S32x2048x1024_2_0_01_1_n_n_wf

variable (m : (ℓ : Loc nD τ sig) → Buf (Elt Ideal) ℓ)

theorem res_eq (c : Dev nD) : res_main_v68 (F := Ideal) m c = stFfn batch (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  unfold res_main_v68
  rfl

/-- The reference's result at one index is the row formula of that token. -/
theorem res_at (c : Dev nD) (i : Fin 32) (s : Fin 2048) (d : Fin 1024) :
    res_main_v68 (F := Ideal) m c (ix3 i s d) =
      (let n : Fin 2048 → Fin 1024 → EReal := fun s => Row.norm (fun k => m ((c.tc : Thread nD τ).loc main_arg0) (ix3 i s k)) (fun e => m ((c.tc : Thread nD τ).loc main_arg1) (ix1 e))
      Row.ffn (fun k => m ((c.tc : Thread nD τ).loc main_arg0) (ix3 i s k)) (Row.before n s) (n s) (Row.after n s)
        (fun k f => m ((c.tc : Thread nD τ).loc main_arg2) (ix2 k f)) (fun k f => m ((c.tc : Thread nD τ).loc main_arg3) (ix2 k f))
        (fun f => m ((c.tc : Thread nD τ).loc main_arg4) (ix1 f)) (fun f e => m ((c.tc : Thread nD τ).loc main_arg5) (ix2 f e)) (fun e => m ((c.tc : Thread nD τ).loc main_arg6) (ix1 e)) d) := by
  rw [res_eq]
  exact stFfn_at batch _ _ _ _ _ _ _ i s d

end Cert.Reference5Ideal.Ffn
-- ==== Proof.FirstKernel.lean ====
module
public import proofs.«01_k».proof.Proof.Gen.Kernel6Ideal.Value
public import proofs.«01_k».proof.Proof.FfnTile
@[expose] public section
set_option maxRecDepth 16384
noncomputable section
open Idealize.ShloMosaic Idealize.ShloMosaic.TcCoe Idealize.SL.Sem
open Idealize.ShloMosaic.Pipeline (Dat)

/-! # The feed-forward kernel's output array in the first layer, without the final norm

The scratches and the block's formula are those of the last layer. -/

namespace Cert.Kernel6Ideal.First
open Cert.Kernel6Ideal Cert.Kernel6Ideal.Gen
open Cert.Kernel2Ideal.Ffn (Rows rows_canon hidden_canon block_plain halo_before)

theorem out_at (x : FVec Ideal S1x512x1024 .f32) (h : FVec Ideal S512x2816 .bf16) (w : FVec Ideal S2816x1024 .bf16)
    (r : Fin 512) (c : Fin 1024) :
    k0_pay2 (F := Ideal) (k0_pay4 x) h w (ix3 0 r c) = x (ix3 0 r c) + Row.dot (fun f => h (ix2 r f)) (fun f c => w (ix2 f c)) c := by
  unfold Row.dot
  pointwise [k0_pay2, k0_pay4]

variable (m : (ℓ : Loc nD τ sig) → Buf (Elt Ideal) ℓ)

theorem idx : ∀ t : Fin cfg0.N, win0_0.index t = ![t.val / 4, t.val % 4 * 32 - 1, 0] ∧ win0_1.index t = ![t.val / 4, t.val % 4, 0]
    ∧ win0_2.index t = ![t.val / 4, min ((t.val % 4 + 1) * 32) 127, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val / 4, t.val % 4, 0] ∧ ((grid0.coords t 1 : Fin _) : ℕ) = t.val % 4 :=
  (by decide +kernel : ∀ t : Fin grid0.N, _)

/-- The normed rows of one sequence of the entry array. -/
def normed (c : Dev nD) (b : Fin 16) (s : Fin 2048) : Fin 1024 → EReal :=
  Row.norm (fun k => m ((c.tc : Thread nD τ).loc main_arg0) (ix3 b s k)) (fun e => m ((c.tc : Thread nD τ).loc main_arg1) (ix1 e))

/-- The output array: each token's row formula of the entry arrays. -/
def Out (c : Dev nD) : FVec Ideal S16x2048x1024 .f32 := fun i =>
  Row.ffnPlain (fun k => m ((c.tc : Thread nD τ).loc main_arg0) (ix3 (i 0) (i 1) k))
    (Row.before (normed m c (i 0)) (i 1)) (normed m c (i 0) (i 1)) (Row.after (normed m c (i 0)) (i 1))
    (fun k f => m ((c.tc : Thread nD τ).loc main_arg2) (ix2 k f)) (fun k f => m ((c.tc : Thread nD τ).loc main_arg3) (ix2 k f))
    (fun f => m ((c.tc : Thread nD τ).loc main_arg4) (ix1 f)) (fun f e => m ((c.tc : Thread nD τ).loc main_arg5) (ix2 f e)) (i 2)

set_option maxHeartbeats 2000000 in
theorem final (c : Dev nD) : (dats m 0 c).arrAt 9 (cfgs 0).N = Out m c := by
  refine (dats m 0 c).arrAt_eq_of_covers 9 _ (by decide +kernel) fun t _ y => ?_
  blk_simp
  rw [after0_9]
  unfold outsAt0
  frame_out
  obtain ⟨i0, i1, i2, i3, i4, i5, i6, i7, i8, i9, it⟩ := idx t
  obtain ⟨B0, hB0⟩ : ∃ B : FVec Ideal S1x16x1024 .f32, iblk m c 0 t = B := ⟨_, rfl⟩
  obtain ⟨B1, hB1⟩ : ∃ B : FVec Ideal S1x512x1024 .f32, iblk m c 1 t = B := ⟨_, rfl⟩
  obtain ⟨B2, hB2⟩ : ∃ B : FVec Ideal S1x16x1024 .f32, iblk m c 2 t = B := ⟨_, rfl⟩
  obtain ⟨B3, hB3⟩ : ∃ B : FVec Ideal S1x1024 .f32, iblk m c 3 t = B := ⟨_, rfl⟩
  obtain ⟨B4, hB4⟩ : ∃ B : FVec Ideal S1024x5632 .bf16, iblk m c 4 t = B := ⟨_, rfl⟩
  obtain ⟨B5, hB5⟩ : ∃ B : FVec Ideal S3x2816 .f32, iblk m c 5 t = B := ⟨_, rfl⟩
  obtain ⟨B6, hB6⟩ : ∃ B : FVec Ideal S1x2816 .f32, iblk m c 6 t = B := ⟨_, rfl⟩
  obtain ⟨B7, hB7⟩ : ∃ B : FVec Ideal S2816x1024 .bf16, iblk m c 7 t = B := ⟨_, rfl⟩
  rw [hB0, hB1, hB2, hB3, hB4, hB5, hB6, hB7]
  obtain ⟨n, hn⟩ : ∃ n : Fin 4, (grid0.coords t 1 : ℕ) = (n : ℕ) := ⟨⟨t.val % 4, by omega⟩, it⟩
  have hn' : (n : ℕ) = t.val % 4 := hn.symm.trans it
  obtain ⟨xe, hxe⟩ : ∃ xe : FVec Ideal S544x1024 .bf16, (View.whole cc0_scratch0).readCov (Val := Elt Ideal)
                    [⟨Rect.unit ![528, 0] ![16, 1024] inb_S544x1024_S16x1024_528_0,
                        k0_pay8 (F := Ideal) (BitVec.ofNat 32 ((grid0.coords t 1) : ℕ)) (k0_pay3 B3) B2⟩,
                      ⟨Rect.unit ![16, 0] ![512, 1024] inb_S544x1024_S512x1024_16_0, k0_pay7 (F := Ideal) (k0_pay6 B3 B1)⟩,
                      ⟨Rect.unit ![0, 0] ![16, 1024] inb_S544x1024_S16x1024_0_0, k0_pay5 (F := Ideal) (grid0.coords t) B3 B0⟩]
                    (Rect.unit (s := S544x1024) ![0, 0] ![544, 1024] inb_S544x1024_S544x1024_0_0).toLoadRect = xe := ⟨_, rfl⟩
  obtain ⟨xs, hxs⟩ : ∃ xs : FVec Ideal S512x1024 .bf16, (View.whole cc0_scratch0).readCov (Val := Elt Ideal)
                    [⟨Rect.unit ![528, 0] ![16, 1024] inb_S544x1024_S16x1024_528_0,
                        k0_pay8 (F := Ideal) (BitVec.ofNat 32 ((grid0.coords t 1) : ℕ)) (k0_pay3 B3) B2⟩,
                      ⟨Rect.unit ![16, 0] ![512, 1024] inb_S544x1024_S512x1024_16_0, k0_pay7 (F := Ideal) (k0_pay6 B3 B1)⟩,
                      ⟨Rect.unit ![0, 0] ![16, 1024] inb_S544x1024_S16x1024_0_0, k0_pay5 (F := Ideal) (grid0.coords t) B3 B0⟩]
                    (Rect.unit (s := S544x1024) ![16, 0] ![512, 1024] inb_S544x1024_S512x1024_16_0).toLoadRect = xs := ⟨_, rfl⟩
  rw [hxe, hxs]
  have exs : ∀ (r : Fin 512) k, xs (ix2 r k) = xe (ix2 ⟨16 + r, by omega⟩ k) := by
    intro r k
    rw [← hxs, ← hxe, View.readCov_eq_canon', View.readCov_eq_canon']
    show View.canon _ _ = View.canon _ _
    refine congrArg (View.canon _) (funext fun a => Fin.ext ?_)
    fin_cases a
    · show 16 + 1 * (r : ℕ) = 0 + 1 * (16 + r); omega
    · rfl
  have exe : ∀ (p : Fin 544) k, xe (ix2 p k) = Rows n B0 B1 B2 B3 p k := by
    intro p k
    rw [← hxe, View.readCov_eq_canon', hn]
    exact rows_canon n B0 B1 B2 B3 _ (fun r k => (halo_before (grid0.coords t) B3 B0 r k).trans (by rw [hn])) p k
  clear hxe hxs
  rw [View.readCov_eq_canon']
  idx_vars y
  obtain rfl : y0 = 0 := Fin.ext (by omega)
  obtain ⟨J, hJ⟩ : ∃ J : S16x2048x1024.Idx, ((View.whole main_v5).slice (win0_9.rect t)).emb (ix3 0 y1 y2) = J := ⟨_, rfl⟩
  have j0 : (J 0 : ℕ) = t.val / 4 := by rw [← hJ]; blk_simp [i9]; simp
  have j1 : (J 1 : ℕ) = t.val % 4 * 512 + y1 := by rw [← hJ]; blk_simp [i9]
  have j2 : J 2 = y2 := by rw [← hJ]; refine Fin.ext ?_; blk_simp [i9]
  rw [hJ]
  unfold Out
  rw [j2]
  have hg : ∀ k, B3 (ix2 0 k) = m ((c.tc : Thread nD τ).loc main_arg1) (ix1 k) := by
    intro k; rw [← hB3]; blk_simp [iblk, i3]; entry_read; pointwise; blk_ext [i3]
  have hx : ∀ (r : Fin 512) k, B1 (ix3 0 r k) = m ((c.tc : Thread nD τ).loc main_arg0) (ix3 (J 0) ⟨n * 512 + r, by omega⟩ k) := by
    intro r k; rw [← hB1]; blk_point [iblk, V, i1]
  have hp : ∀ (a : 0 < (n : ℕ)) k, B0 (ix3 0 15 k) = m ((c.tc : Thread nD τ).loc main_arg0) (ix3 (J 0) ⟨n * 512 - 1, by omega⟩ k) := by
    intro a k; rw [← hB0]; blk_point [iblk, V, i0]
  have hq : ∀ (a : (n : ℕ) < 3) k, B2 (ix3 0 0 k) = m ((c.tc : Thread nD τ).loc main_arg0) (ix3 (J 0) ⟨n * 512 + 512, by omega⟩ k) := by
    intro a k; rw [← hB2]; blk_point [iblk, V, i2]
  have hu : ∀ j k, B4 (ix2 j k) = m ((c.tc : Thread nD τ).loc main_arg2) (ix2 j k) := by
    intro j k; rw [← hB4]; blk_simp [iblk, i4]; entry_read; pointwise; blk_ext [i4]
  have hw : ∀ j k, B5 (ix2 j k) = m ((c.tc : Thread nD τ).loc main_arg3) (ix2 j k) := by
    intro j k; rw [← hB5]; blk_point [iblk, V, i5]
  have hb : ∀ k, B6 (ix2 0 k) = m ((c.tc : Thread nD τ).loc main_arg4) (ix1 k) := by
    intro k; rw [← hB6]; blk_simp [iblk, i6]; entry_read; pointwise; blk_ext [i6]
  have hd : ∀ j k, B7 (ix2 j k) = m ((c.tc : Thread nD τ).loc main_arg5) (ix2 j k) := by
    intro j k; rw [← hB7]; blk_simp [iblk, i7]; entry_read; pointwise; blk_ext [i7]
  refine (out_at B1 _ B7 y1 y2).trans ?_
  exact block_plain (fun s k => m ((c.tc : Thread nD τ).loc main_arg0) (ix3 (J 0) s k))
    (fun k => m ((c.tc : Thread nD τ).loc main_arg1) (ix1 k)) _ _ _ _ n B0 B1 B2 B3 B4 B5 B6 B7 hp hx hq hg hu hw hb hd xe exe _ y1
    (fun f => hidden_canon xe xs B4 B5 B6 exs y1 f) (J 1) (by omega) y2

end Cert.Kernel6Ideal.First
-- ==== Proof.FirstRef.lean ====
module
public import proofs.«01_k».proof.Proof.Gen.Reference6Ideal.Run
public import proofs.«01_k».proof.Proof.FfnRef
@[expose] public section
set_option maxRecDepth 16384
noncomputable section
open Idealize.ShloMosaic Idealize.ShloMosaic.TcCoe Idealize.SL.Sem

/-! # The feed-forward reference of the first layer, without the final norm -/

namespace Cert.Reference6Ideal.First
open Cert.Reference6Ideal Cert.Reference6Ideal.Gen Cert.Reference6Ideal.Value
open Cert.Ffn (stPlain stPlain_at)
open Cert.Reference2Ideal.Ffn (batch)

variable (m : (ℓ : Loc nD τ sig) → Buf (Elt Ideal) ℓ)

theorem res_eq (c : Dev nD) : res_main_v55 (F := Ideal) m c = stPlain batch (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v55
  rfl

/-- The reference's result at one index is the row formula of that token. -/
theorem res_at (c : Dev nD) (i : Fin 16) (s : Fin 2048) (d : Fin 1024) :
    res_main_v55 (F := Ideal) m c (ix3 i s d) =
      (let n : Fin 2048 → Fin 1024 → EReal := fun s => Row.norm (fun k => m ((c.tc : Thread nD τ).loc main_arg0) (ix3 i s k)) (fun e => m ((c.tc : Thread nD τ).loc main_arg1) (ix1 e))
      Row.ffnPlain (fun k => m ((c.tc : Thread nD τ).loc main_arg0) (ix3 i s k)) (Row.before n s) (n s) (Row.after n s)
        (fun k f => m ((c.tc : Thread nD τ).loc main_arg2) (ix2 k f)) (fun k f => m ((c.tc : Thread nD τ).loc main_arg3) (ix2 k f))
        (fun f => m ((c.tc : Thread nD τ).loc main_arg4) (ix1 f)) (fun f e => m ((c.tc : Thread nD τ).loc main_arg5) (ix2 f e)) d) := by
  rw [res_eq]
  exact stPlain_at batch _ _ _ _ _ _ i s d

end Cert.Reference6Ideal.First
-- ==== Proof.KvKernel.lean ====
module
public import proofs.«01_k».proof.Proof.Gen.Kernel3Ideal.Value
public import proofs.«01_k».proof.Proof.Row
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

/-! # The key/value kernel's two output arrays -/

namespace Cert.Kernel3Ideal.Kv
open Cert.Kernel3Ideal Cert.Kernel3Ideal.Gen

/-- Channel `f` of the product of one normed memory row with the key/value weights. -/
def proj (x : Fin 1024 → EReal) (g : Fin 1024 → EReal) (w : Fin 1024 → Fin 2048 → EReal) (f : Fin 2048) : EReal := Row.dot (Row.norm x g) w f

theorem key_at (x : FVec Ideal S512x1024 .f32) (g : FVec Ideal S1x1024 .f32) (w : FVec Ideal S1024x2048 .bf16) (r : Fin 512) (c : Fin 1024) :
    k0_pay2 (F := Ideal) x g w (ix2 r c) = proj (fun k => x (ix2 r k)) (fun k => g (ix2 0 k)) (fun k f => w (ix2 k f)) ⟨c, by omega⟩ := by
  unfold proj Row.dot Row.norm
  pointwise [k0_pay2, k0_pay1]
  blk_ext

theorem value_at (x : FVec Ideal S512x1024 .f32) (g : FVec Ideal S1x1024 .f32) (w : FVec Ideal S1024x2048 .bf16) (r : Fin 512) (c : Fin 1024) :
    k0_pay3 (F := Ideal) x g w (ix2 r c) = proj (fun k => x (ix2 r k)) (fun k => g (ix2 0 k)) (fun k f => w (ix2 k f)) ⟨1024 + c, by omega⟩ := by
  unfold proj Row.dot Row.norm
  pointwise [k0_pay3, k0_pay1]
  blk_ext

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] := (by decide +kernel : ∀ t : Fin grid0.N, _)

/-- Half `o` of the projection of every memory row, the rows of all sequences one after another. -/
def Out (c : Dev nD) (o : ℕ) (ho : o ≤ 1024) : FVec Ideal S4096x1024 .bf16 := fun i =>
  proj (fun k => m ((c.tc : Thread nD τ).loc main_arg0) (ix3 ⟨(i 0 : ℕ) / 256, by have : (i 0 : ℕ) < 4096 := (i 0).isLt; omega⟩ ⟨(i 0 : ℕ) % 256, by omega⟩ k))
    (fun k => m ((c.tc : Thread nD τ).loc main_arg1) (ix1 k)) (fun k f => m ((c.tc : Thread nD τ).loc main_arg2) (ix2 k f))
    ⟨o + (i 1 : ℕ), by have : (i 1 : ℕ) < 1024 := (i 1).isLt; omega⟩

/-- What the three operand blocks of point `t` hold, of the entry arrays. -/
theorem operands (c : Dev nD) (t : Fin cfg0.N) :
    (∀ r k, iblk m c 0 t (ix2 r k) = m ((c.tc : Thread nD τ).loc main_arg0) (ix3 ⟨(t.val * 512 + r) / 256, by have : t.val < 8 := t.isLt; omega⟩ ⟨(t.val * 512 + r) % 256, by omega⟩ k))
    ∧ (∀ k, iblk m c 1 t (ix2 0 k) = m ((c.tc : Thread nD τ).loc main_arg1) (ix1 k))
    ∧ (∀ k f, iblk m c 2 t (ix2 k f) = m ((c.tc : Thread nD τ).loc main_arg2) (ix2 k f)) := by
  obtain ⟨i0, i1, i2, i3, i4⟩ := idx t
  refine ⟨fun r k => ?_, fun k => ?_, fun k f => ?_⟩
  · blk_simp [iblk, i0]; entry_read; pointwise; blk_ext [i0]
  · blk_simp [iblk, i1]; entry_read; pointwise; blk_ext [i1]
  · blk_simp [iblk, i2]; entry_read; pointwise; blk_ext [i2]

theorem keys (c : Dev nD) : (dats m 0 c).arrAt 3 (cfgs 0).N = Out m c 0 (by omega) := by
  refine (dats m 0 c).arrAt_eq_of_covers 3 _ (by decide +kernel) fun t _ y => ?_
  blk_simp
  rw [after0_3]
  frame_out
  obtain ⟨i0, i1, i2, i3, i4⟩ := idx t
  obtain ⟨hx, hg, hw⟩ := operands m c t
  idx_vars y
  refine (key_at _ _ _ _ _).trans ?_
  obtain ⟨J, hJ⟩ : ∃ J : S4096x1024.Idx, ((View.whole main_v3_0).slice (win0_3.rect t)).emb (ix2 y0 y1) = J := ⟨_, rfl⟩
  have j0 : (J 0 : ℕ) = t.val * 512 + y0 := by rw [← hJ]; blk_simp [i3]
  have j1 : (J 1 : ℕ) = y1 := by rw [← hJ]; blk_simp [i3]
  rw [hJ]
  unfold Out
  simp only [hx, hg, hw, j0, j1, Nat.zero_add]

theorem values (c : Dev nD) : (dats m 0 c).arrAt 4 (cfgs 0).N = Out m c 1024 (by omega) := by
  refine (dats m 0 c).arrAt_eq_of_covers 4 _ (by decide +kernel) fun t _ y => ?_
  blk_simp
  rw [after0_4]
  frame_out
  obtain ⟨i0, i1, i2, i3, i4⟩ := idx t
  obtain ⟨hx, hg, hw⟩ := operands m c t
  idx_vars y
  refine (value_at _ _ _ _ _).trans ?_
  obtain ⟨J, hJ⟩ : ∃ J : S4096x1024.Idx, ((View.whole main_v3_1).slice (win0_4.rect t)).emb (ix2 y0 y1) = J := ⟨_, rfl⟩
  have j0 : (J 0 : ℕ) = t.val * 512 + y0 := by rw [← hJ]; blk_simp [i4]
  have j1 : (J 1 : ℕ) = y1 := by rw [← hJ]; blk_simp [i4]
  rw [hJ]
  unfold Out
  simp only [hx, hg, hw, j0, j1]

end Cert.Kernel3Ideal.Kv
-- ==== Proof.KvRef.lean ====
module
public import proofs.«01_k».proof.Proof.Gen.Reference3Ideal.Run
public import proofs.«01_k».proof.Proof.Row
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

/-! # The key/value reference read at an index -/

namespace Cert.Reference3Ideal.Kv
open Cert.Reference3Ideal Cert.Reference3Ideal.Gen

/-- The product of the normed memory with the key/value weights. -/
def stProj (x : FVec Ideal S16x256x1024 .f32) (g : FVec Ideal S1024 .f32) (w : FVec Ideal S1024x2048 .f32) : FVec Ideal S16x256x2048 .f32 :=
  Host.dotGeneral dot_S16x256x1024_S1024x2048_S16x256x2048_2_0_01_1_n_n none
    (mulf (mulf x (broadcastInDim S16x256x1024 ![0, 1, 2] bcast_S16x256x1_S16x256x1024_0_1_2
      (Host.rsqrt (addf (Host.divf (broadcastInDim S16x256x1 ![0, 1] bcast_S16x256_S16x256x1_0_1
          (Host.reduceAdd (mulf x x) (constant S_ .f32 0x00000000#32) reducesTo_S16x256x1024_S16x256_d2 h_S_))
        (broadcastInDim S16x256x1 ![] bcast_S_S16x256x1 (constant S_ .f32 0x44800000#32)))
        (broadcastInDim S16x256x1 ![] bcast_S_S16x256x1 (constant S_ .f32 0x358637BD#32))))))
    (broadcastInDim S16x256x1024 ![0, 1, 2] bcast_S1x1x1024_S16x256x1024_0_1_2 (broadcastInDim S1x1x1024 ![2] bcast_S1024_S1x1x1024_2 g))) w

/-- The keys: the first 1024 channels, all rows one after another. -/
def stKeys (p : FVec Ideal S16x256x2048 .f32) : FVec Ideal S4096x1024 .bf16 :=
  truncf .bf16 (shapeCast _ (extractStridedSlice S16x256x1024 ![0, 0, 0] p slices_S16x256x2048_S16x256x1024_0_0_0) shapeCasts_S16x256x1024_S4096x1024) bitsLt_bf16_f32

/-- The values: the last 1024 channels, all rows one after another. -/
def stValues (p : FVec Ideal S16x256x2048 .f32) : FVec Ideal S4096x1024 .bf16 :=
  truncf .bf16 (shapeCast _ (extractStridedSlice S16x256x1024 ![0, 0, 1024] p slices_S16x256x2048_S16x256x1024_0_0_1024) shapeCasts_S16x256x1024_S4096x1024) bitsLt_bf16_f32

theorem stProj_at (x : FVec Ideal S16x256x1024 .f32) (g : FVec Ideal S1024 .f32) (w : FVec Ideal S1024x2048 .f32) (i : Fin 16) (j : Fin 256) (f : Fin 2048) :
    stProj x g w (ix3 i j f) = Row.dot (Row.norm (fun k => x (ix3 i j k)) (fun k => g (ix1 k))) (fun k f => w (ix2 k f)) f := by
  unfold Row.dot Row.norm
  pointwise [stProj]

theorem stKeys_at (p : FVec Ideal S16x256x2048 .f32) (r : Fin 4096) (c : Fin 1024) :
    stKeys p (ix2 r c) = p (ix3 ⟨(r : ℕ) / 256, by omega⟩ ⟨(r : ℕ) % 256, by omega⟩ ⟨0 + c, by omega⟩) := by
  pointwise [stKeys]
  blk_ext

theorem stValues_at (p : FVec Ideal S16x256x2048 .f32) (r : Fin 4096) (c : Fin 1024) :
    stValues p (ix2 r c) = p (ix3 ⟨(r : ℕ) / 256, by omega⟩ ⟨(r : ℕ) % 256, by omega⟩ ⟨1024 + c, by omega⟩) := by
  pointwise [stValues]
  blk_ext

end Cert.Reference3Ideal.Kv
-- ==== Proof.Algebra.lean ====
module
public import proofs.«01_k».proof.Defs
public import proofs.«01_k».proof.Proof.AttnKernel
public import proofs.«01_k».proof.Proof.AttnRef
public import proofs.«01_k».proof.Proof.FfnKernel
public import proofs.«01_k».proof.Proof.FfnRef
public import proofs.«01_k».proof.Proof.WideKernel
public import proofs.«01_k».proof.Proof.WideRef
public import proofs.«01_k».proof.Proof.SampleKernel
public import proofs.«01_k».proof.Proof.SampleRef
public import proofs.«01_k».proof.Proof.FirstKernel
public import proofs.«01_k».proof.Proof.FirstRef
public import proofs.«01_k».proof.Proof.KvKernel
public import proofs.«01_k».proof.Proof.KvRef
public import Idealize.ShloMosaic.Lib.Claim
@[expose] public section
set_option maxRecDepth 16384
noncomputable section
open Idealize.ShloMosaic Idealize.ShloMosaic.TcCoe Idealize.SL.Sem

/-! # The kernels compute the references' functions over the extended reals -/

namespace Cert.Proof

theorem algebraicAttention : algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    rw [Cert.KernelIdeal.Attn.final m c]
    funext i
    idx_vars i
    refine (Cert.ReferenceIdeal.Attn.res_at m' c _ _ _).trans ?_
    obtain ⟨a0, a1, a2, a3, a4, a5, a6, a7, a8⟩ := hagree c
    rw [a0, a1, a2, a3, a4, a5, a6, a7, a8]
    rfl

theorem algebraicFfn : algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    rw [Cert.Kernel2Ideal.Ffn.final m c]
    funext i
    idx_vars i
    refine (Cert.Reference2Ideal.Ffn.res_at m' c _ _ _).trans ?_
    obtain ⟨a0, a1, a2, a3, a4, a5, a6⟩ := hagree c
    rw [a0, a1, a2, a3, a4, a5, a6]
    rfl

theorem algebraicKv : algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    · rw [Cert.Kernel3Ideal.Kv.keys m c]
      funext i
      idx_vars i
      refine (Cert.Reference3Ideal.Kv.stKeys_at (Cert.Reference3Ideal.Kv.stProj _ _ _) _ _).trans ?_
      rw [Cert.Reference3Ideal.Kv.stProj_at]
      rfl
    · rw [Cert.Kernel3Ideal.Kv.values m c]
      funext i
      idx_vars i
      refine (Cert.Reference3Ideal.Kv.stValues_at (Cert.Reference3Ideal.Kv.stProj _ _ _) _ _).trans ?_
      rw [Cert.Reference3Ideal.Kv.stProj_at]
      rfl

theorem algebraicWide : algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [Cert.Kernel4Ideal.Wide.final m c]
    funext i
    idx_vars i
    refine (Cert.Reference4Ideal.Wide.res_at m' c _ _ _).trans ?_
    obtain ⟨a0, a1, a2, a3, a4, a5, a6, a7⟩ := hagree c
    rw [a0, a1, a2, a3, a4, a5, a6, a7]
    rfl

theorem algebraicSample : algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    rw [Cert.Kernel5Ideal.Sample.final m c]
    funext i
    idx_vars i
    refine (Cert.Reference5Ideal.Ffn.res_at m' c _ _ _).trans ?_
    obtain ⟨a0, a1, a2, a3, a4, a5, a6⟩ := hagree c
    rw [a0, a1, a2, a3, a4, a5, a6]
    rfl

theorem algebraicPlain : algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    rw [Cert.Kernel6Ideal.First.final m c]
    funext i
    idx_vars i
    refine (Cert.Reference6Ideal.First.res_at m' c _ _ _).trans ?_
    obtain ⟨a0, a1, a2, a3, a4, a5, _⟩ := hagree c
    rw [a0, a1, a2, a3, a4, a5]
    rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Frames
public import proofs.«01_k».proof.Proof.Algebra
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  quiescentKernel, quiescentKernelIdeal, quiescentReference, quiescentKernel2, quiescentKernel2Ideal, quiescentReference2,
  quiescentKernel3, quiescentKernel3Ideal, quiescentReference3, quiescentKernel4, quiescentKernel4Ideal, quiescentReference4,
  quiescentKernel5, quiescentKernel5Ideal, quiescentReference5, quiescentKernel6, quiescentKernel6Ideal, quiescentReference6,
  trivial, algebraicAttention, trivial, algebraicFfn, trivial, algebraicKv, trivial, algebraicWide,
  trivial, algebraicSample, trivial, algebraicPlain⟩

end Cert.Proof

end
